-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unit_lane [hPre_finite_unit_lane : Cert.Pre_finite_unit_lane.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unit_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unit_lane [hPre_finite_unit_lane : Cert.Pre_finite_unit_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unit_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_expert_in_range : Cert.Pre_expert_in_range.Facts] (m : (ℓ : Loc Cert.Kernel2.nD Cert.Kernel2.τ Cert.Kernel2.sig) → Buf (Elt Bits) ℓ) : Prop :=
  ∀ c : Dev Cert.Kernel2.nD,
    (Cert.Pre_expert_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_expert_in_range : Cert.Pre_expert_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_in_range [hPre_expert_in_range : Cert.Pre_expert_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_unit_lane [hKernelIdeal : Cert.KernelIdeal.Facts] [hPre_finite_unit_lane : Cert.Pre_finite_unit_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unit_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_unit_lane [hReferenceIdeal : Cert.ReferenceIdeal.Facts] [hPre_finite_unit_lane : Cert.Pre_finite_unit_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unit_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_expert_in_range : Cert.Pre_expert_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_expert_in_range [hReference2Ideal : Cert.Reference2Ideal.Facts] [hPre_expert_in_range : Cert.Pre_expert_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_unit_lane [hKernelIdeal : Cert.KernelIdeal.Facts] [hReferenceIdeal : Cert.ReferenceIdeal.Facts] [hPre_finite_unit_lane : Cert.Pre_finite_unit_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unit_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_unit_lane : Cert.Pre_finite_unit_lane.Facts) (hPre_expert_in_range : Cert.Pre_expert_in_range.Facts),
    quiescent_Kernel (hKernel := hKernel)
    ∧ quiescent_KernelIdeal (hKernelIdeal := hKernelIdeal)
    ∧ quiescent_KernelIdeal_pre_finite_unit_lane (hKernelIdeal := hKernelIdeal) (hPre_finite_unit_lane := hPre_finite_unit_lane)
    ∧ quiescent_ReferenceIdeal (hReferenceIdeal := hReferenceIdeal)
    ∧ quiescent_ReferenceIdeal_pre_finite_unit_lane (hReferenceIdeal := hReferenceIdeal) (hPre_finite_unit_lane := hPre_finite_unit_lane)
    ∧ quiescent_Kernel2 (hKernel2 := hKernel2) (hPre_expert_in_range := hPre_expert_in_range)
    ∧ quiescent_Kernel2Ideal (hKernel2Ideal := hKernel2Ideal) (hPre_expert_in_range := hPre_expert_in_range)
    ∧ quiescent_Reference2Ideal (hReference2Ideal := hReference2Ideal)
    ∧ quiescent_Reference2Ideal_pre_expert_in_range (hReference2Ideal := hReference2Ideal) (hPre_expert_in_range := hPre_expert_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_unit_lane (hKernelIdeal := hKernelIdeal) (hReferenceIdeal := hReferenceIdeal) (hPre_finite_unit_lane := hPre_finite_unit_lane)
    ∧ preserves_Kernel2_Kernel2Ideal
    ∧ algebraic_Kernel2Ideal_Reference2Ideal (hKernel2Ideal := hKernel2Ideal) (hReference2Ideal := hReference2Ideal) (hPre_expert_in_range := hPre_expert_in_range)
    ∧ preserves_Kernel3_Kernel3Ideal
    ∧ algebraic_Kernel3Ideal_Reference3Ideal (hKernel3Ideal := hKernel3Ideal) (hReference3Ideal := hReference3Ideal)
-- ==== Pre_expert_in_range.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S655360x128 .f32) (main_arg3 : FVec F S32x1024x2048 .f32) (main_arg4 : FVec F S32x2048 .f32) (main_arg5 : FVec F S32x1024x1024 .f32) (main_arg6 : FVec F S32x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_finite_unit_lane.lean ====
abbrev S8x16384x128 : Shape := ⟨3, ![8, 16384, 128]⟩
abbrev S_ : Shape := ⟨0, ![]⟩
abbrev S8x16384x1 : Shape := ⟨3, ![8, 16384, 1]⟩

class Facts : Prop where
  bitsLt_bf16_f32 : FTy.bits .bf16 < FTy.bits .f32
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  slices_S8x16384x128_S8x16384x1_0_0_64 : S8x16384x128.Slices ![0, 0, 64] S8x16384x1
  bcast_S_S8x16384x1 : S_.BroadcastsInDim S8x16384x1 (![] : Fin 0 → Fin S8x16384x1.rank)
  reducesTo_S8x16384x1_S_d0_1_2 : S8x16384x1.ReducesTo [0, 1, 2] S_

variable [Facts]

def fn {F : FTy → Type} [FloatOps F] (main_arg0 : FVec F S8x16384x128 .bf16) (main_arg1 : FVec F S8x16384x128 .bf16) (main_arg2 : FVec F S8x16384x128 .bf16) : IVec S_ 1 :=
  let main_v0 : FVec F S8x16384x128 .f32 := (extf .f32 · bitsLt_bf16_f32) main_arg0
  let main_v1 : FVec F S8x16384x128 .f32 := Host.absf main_v0
  let main_cst : FVec F S_ .f32 := constant S_ .f32 0x7F800000#32
  let main_v2 : FVec F S8x16384x128 .f32 := broadcastInDim S8x16384x128 ![] bcast_S_S8x16384x128 main_cst
  let main_v3 : IVec S8x16384x128 1 := cmpf .olt main_v1 main_v2
  let main_c : IVec S_ 1 := constantI S_ 1 1#1
  let main_v4 : IVec S_ 1 := (fun x v => Host.reduce IntOp.andi x v reducesTo_S8x16384x128_S_d0_1_2 h_S_) main_v3 main_c
  let main_v5 : FVec F S8x16384x128 .f32 := (extf .f32 · bitsLt_bf16_f32) main_arg1
  let main_v6 : FVec F S8x16384x128 .f32 := Host.absf main_v5
  let main_cst_0 : FVec F S_ .f32 := constant S_ .f32 0x7F800000#32
  let main_v7 : FVec F S8x16384x128 .f32 := broadcastInDim S8x16384x128 ![] bcast_S_S8x16384x128 main_cst_0
  let main_v8 : IVec S8x16384x128 1 := cmpf .olt main_v6 main_v7
  let main_c_1 : IVec S_ 1 := constantI S_ 1 1#1
  let main_v9 : IVec S_ 1 := (fun x v => Host.reduce IntOp.andi x v reducesTo_S8x16384x128_S_d0_1_2 h_S_) main_v8 main_c_1
  let main_v10 : IVec S_ 1 := andi main_v4 main_v9
  let main_v11 : FVec F S8x16384x1 .bf16 := (extractStridedSlice S8x16384x1 ![0, 0, 64] · slices_S8x16384x128_S8x16384x1_0_0_64) main_arg2
  let main_v12 : FVec F S8x16384x1 .f32 := (extf .f32 · bitsLt_bf16_f32) main_v11
  let main_cst_2 : FVec F S_ .f32 := constant S_ .f32 0x3F800000#32
  let main_v13 : FVec F S8x16384x1 .f32 := broadcastInDim S8x16384x1 ![] bcast_S_S8x16384x1 main_cst_2
  let main_v14 : IVec S8x16384x1 1 := cmpf .oeq main_v12 main_v13
  let main_c_3 : IVec S_ 1 := constantI S_ 1 1#1
  let main_v15 : IVec S_ 1 := (fun x v => Host.reduce IntOp.andi x v reducesTo_S8x16384x1_S_d0_1_2 h_S_) main_v14 main_c_3
  let main_v16 : IVec S_ 1 := andi main_v10 main_v15
  main_v16
-- ==== Kernel.lean ====
abbrev S8x16384x128 : Shape := ⟨3, ![8, 16384, 128]⟩
abbrev S16384x512 : Shape := ⟨2, ![16384, 512]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x64 : Shape := ⟨2, ![512, 64]⟩

abbrev nBuf : Space → Nat
  | .hbm => 4
  | .vmem => 10
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x16384x128, .bf16⟩
  | .hbm, ⟨3, _⟩ => ⟨S16384x512, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S512x512, .f32⟩
  | .local _ .vmem, ⟨7, _⟩ => ⟨S512x512, .f32⟩
  | .local _ .vmem, ⟨8, _⟩ => ⟨S8x512x128, .f32⟩
  | .local _ .vmem, ⟨9, _⟩ => ⟨S8x512x128, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 16], ![false, false, false]⟩

def k0_cond4 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.minsi arg1 arg2
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.minsi arg1 arg2
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8x16384x128 : Shape := ⟨3, ![8, 16384, 128]⟩
abbrev S8x2x8192x128 : Shape := ⟨4, ![8, 2, 8192, 128]⟩
abbrev S8x2x8192x64 : Shape := ⟨4, ![8, 2, 8192, 64]⟩
abbrev S8x2x8192x8192 : Shape := ⟨4, ![8, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x2x8192 : Shape := ⟨3, ![8, 2, 8192]⟩
abbrev S8x2x8192x1 : Shape := ⟨4, ![8, 2, 8192, 1]⟩
abbrev S1x1x8192x8192 : Shape := ⟨4, ![1, 1, 8192, 8192]⟩
abbrev S2x8192x8x64 : Shape := ⟨4, ![2, 8192, 8, 64]⟩
abbrev S16384x512 : Shape := ⟨2, ![16384, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x16384x128, .bf16⟩
  | .hbm, ⟨3, _⟩ => ⟨S8x16384x128, .f32⟩
  | .hbm, ⟨4, _⟩ => ⟨S8x2x8192x128, .f32⟩
  | .hbm, ⟨5, _⟩ => ⟨S8x16384x128, .f32⟩
  | .hbm, ⟨6, _⟩ => ⟨S8x2x8192x128, .f32⟩
  | .hbm, ⟨7, _⟩ => ⟨S8x16384x128, .f32⟩
  | .hbm, ⟨8, _⟩ => ⟨S8x2x8192x128, .f32⟩
  | .hbm, ⟨9, _⟩ => ⟨S8x2x8192x64, .f32⟩
  | .hbm, ⟨10, _⟩ => ⟨S8x2x8192x8192, .f32⟩
  | .hbm, ⟨11, _⟩ => ⟨S_, .f32⟩
  | .hbm, ⟨12, _⟩ => ⟨S_, .f32⟩
  | .hbm, ⟨13, _⟩ => ⟨S8x2x8192x8192, .f32⟩
  | .hbm, ⟨14, _⟩ => ⟨S8x2x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x2x8192x8192, .i1⟩
  | .hbm, ⟨24, _⟩ => ⟨S8x2x8192x8192, .f32⟩
  | .hbm, ⟨25, _⟩ => ⟨S8x2x8192x8192, .f32⟩
  | .hbm, ⟨26, _⟩ => ⟨S_, .f32⟩
  | .hbm, ⟨27, _⟩ => ⟨S8x2x8192, .f32⟩
  | .hbm, ⟨28, _⟩ => ⟨S8x2x8192x1, .f32⟩
  | .hbm, ⟨29, _⟩ => ⟨S8x2x8192x8192, .f32⟩
  | .hbm, ⟨30, _⟩ => ⟨S8x2x8192x8192, .f32⟩
  | .hbm, ⟨31, _⟩ => ⟨S8x2x8192x8192, .f32⟩
  | .hbm, ⟨32, _⟩ => ⟨S8192x8192, .f32⟩
  | .hbm, ⟨33, _⟩ => ⟨S1x1x8192x8192, .f32⟩
  | .hbm, ⟨34, _⟩ => ⟨S8x2x8192x8192, .f32⟩
  | .hbm, ⟨35, _⟩ => ⟨S8x2x8192x8192, .f32⟩
  | .hbm, ⟨36, _⟩ => ⟨S_, .f32⟩
  | .hbm, ⟨37, _⟩ => ⟨S8x2x8192, .f32⟩
  | .hbm, ⟨38, _⟩ => ⟨S8x2x8192x1, .f32⟩
  | .hbm, ⟨39, _⟩ => ⟨S_, .f32⟩
  | .hbm, ⟨40, _⟩ => ⟨S8x2x8192x1, .f32⟩
  | .hbm, ⟨41, _⟩ => ⟨S8x2x8192x1, .f32⟩
  | .hbm, ⟨42, _⟩ => ⟨S8x2x8192x8192, .f32⟩
  | .hbm, ⟨43, _⟩ => ⟨S8x2x8192x8192, .f32⟩
  | .hbm, ⟨44, _⟩ => ⟨S8x2x8192x64, .f32⟩
  | .hbm, ⟨45, _⟩ => ⟨S2x8192x8x64, .f32⟩
  | .hbm, ⟨46, _⟩ => ⟨S16384x512, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S256x256 : Shape := ⟨2, ![256, 256]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x2048 : Shape := ⟨2, ![1024, 2048]⟩
abbrev S1024x1024 : Shape := ⟨2, ![1024, 1024]⟩
abbrev S1x1024x256 : Shape := ⟨3, ![1, 1024, 256]⟩
abbrev S1024x256 : Shape := ⟨2, ![1024, 256]⟩
abbrev S512x128 : Shape := ⟨2, ![512, 128]⟩
abbrev S512x1024 : Shape := ⟨2, ![512, 1024]⟩
abbrev S512x2048 : Shape := ⟨2, ![512, 2048]⟩
abbrev S1x1024 : Shape := ⟨2, ![1, 1024]⟩
abbrev S1x128 : Shape := ⟨2, ![1, 128]⟩

abbrev nBuf : Space → Nat
  | .hbm => 12
  | .vmem => 17
  | .smem => 2
  | _ => 0

abbrev bufTy : (tb : Table) → Fin (tcTables nBuf tb) → BufTy
  | .hbm, ⟨0, _⟩ => ⟨S655360x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S256x256, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S256x256, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S4096x128, .f32⟩
  | .local _ .vmem, ⟨14, _⟩ => ⟨S4096x128, .f32⟩
  | .local _ .vmem, ⟨15, _⟩ => ⟨S1024x2048, .bf16⟩
  | .local _ .vmem, ⟨16, _⟩ => ⟨S1024x1024, .bf16⟩
  | .local _ .smem, ⟨0, _⟩ => ⟨S160, .i32⟩
  | .local _ .smem, ⟨1, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S160x512x1024 : Shape := ⟨3, ![160, 512, 1024]⟩
abbrev S_ : Shape := ⟨0, ![]⟩
abbrev S160x1 : Shape := ⟨2, ![160, 1]⟩
abbrev S160x1024x2048 : Shape := ⟨3, ![160, 1024, 2048]⟩
abbrev S160x512x2048 : Shape := ⟨3, ![160, 512, 2048]⟩
abbrev S160x2048 : Shape := ⟨2, ![160, 2048]⟩
abbrev S160x1x2048 : Shape := ⟨3, ![160, 1, 2048]⟩
abbrev S160x1024x1024 : Shape := ⟨3, ![160, 1024, 1024]⟩
abbrev S160x1024 : Shape := ⟨2, ![160, 1024]⟩
abbrev S160x1x1024 : Shape := ⟨3, ![160, 1, 1024]⟩
abbrev S160x1x1 : Shape := ⟨3, ![160, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S655360x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S160x512x1024, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x1024x2048, .f32⟩
  | .hbm, ⟨17, _⟩ => ⟨S160x512x2048, .f32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S160x2048, .f32⟩
  | .hbm, ⟨27, _⟩ => ⟨S160x1x2048, .f32⟩
  | .hbm, ⟨28, _⟩ => ⟨S160x512x2048, .f32⟩
  | .hbm, ⟨29, _⟩ => ⟨S160x512x2048, .f32⟩
  | .hbm, ⟨30, _⟩ => ⟨S160x512x1024, .f32⟩
  | .hbm, ⟨31, _⟩ => ⟨S_, .f32⟩
  | .hbm, ⟨32, _⟩ => ⟨S160x512x1024, .f32⟩
  | .hbm, ⟨33, _⟩ => ⟨S160x512x1024, .f32⟩
  | .hbm, ⟨34, _⟩ => ⟨S160x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x512x1024, .f32⟩
  | .hbm, ⟨39, _⟩ => ⟨S160x512x1024, .f32⟩
  | .hbm, ⟨40, _⟩ => ⟨S_, .f32⟩
  | .hbm, ⟨41, _⟩ => ⟨S160x512x1024, .f32⟩
  | .hbm, ⟨42, _⟩ => ⟨S160x512x1024, .f32⟩
  | .hbm, ⟨43, _⟩ => ⟨S_, .f32⟩
  | .hbm, ⟨44, _⟩ => ⟨S160x512x1024, .f32⟩
  | .hbm, ⟨45, _⟩ => ⟨S160x512x1024, .f32⟩
  | .hbm, ⟨46, _⟩ => ⟨S160x512x1024, .f32⟩
  | .hbm, ⟨47, _⟩ => ⟨S_, .f32⟩
  | .hbm, ⟨48, _⟩ => ⟨S160x512x1024, .f32⟩
  | .hbm, ⟨49, _⟩ => ⟨S160x512x1024, .f32⟩
  | .hbm, ⟨50, _⟩ => ⟨S160x512x1024, .f32⟩
  | .hbm, ⟨51, _⟩ => ⟨S160x512x1024, .f32⟩
  | .hbm, ⟨52, _⟩ => ⟨S_, .f32⟩
  | .hbm, ⟨53, _⟩ => ⟨S160x512x1024, .f32⟩
  | .hbm, ⟨54, _⟩ => ⟨S160x512x1024, .f32⟩
  | .hbm, ⟨55, _⟩ => ⟨S_, .f32⟩
  | .hbm, ⟨56, _⟩ => ⟨S160x512x1024, .f32⟩
  | .hbm, ⟨57, _⟩ => ⟨S160x512x1024, .f32⟩
  | .hbm, ⟨58, _⟩ => ⟨S160x512x1024, .f32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S_, .i32⟩
  | .hbm, ⟨63, _⟩ => ⟨S160, .i32⟩
  | .hbm, ⟨64, _⟩ => ⟨S160, .i32⟩
  | .hbm, ⟨65, _⟩ => ⟨S160, .i32⟩
  | .hbm, ⟨66, _⟩ => ⟨S160x1, .i32⟩
  | .hbm, ⟨67, _⟩ => ⟨S160x1024x1024, .f32⟩
  | .hbm, ⟨68, _⟩ => ⟨S160x512x1024, .f32⟩
  | .hbm, ⟨69, _⟩ => ⟨S_, .i32⟩
  | .hbm, ⟨70, _⟩ => ⟨S160, .i32⟩
  | .hbm, ⟨71, _⟩ => ⟨S160, .i1⟩
  | .hbm, ⟨72, _⟩ => ⟨S_, .i32⟩
  | .hbm, ⟨73, _⟩ => ⟨S160, .i32⟩
  | .hbm, ⟨74, _⟩ => ⟨S160, .i32⟩
  | .hbm, ⟨75, _⟩ => ⟨S160, .i32⟩
  | .hbm, ⟨76, _⟩ => ⟨S160x1, .i32⟩
  | .hbm, ⟨77, _⟩ => ⟨S160x1024, .f32⟩
  | .hbm, ⟨78, _⟩ => ⟨S160x1x1024, .f32⟩
  | .hbm, ⟨79, _⟩ => ⟨S160x512x1024, .f32⟩
  | .hbm, ⟨80, _⟩ => ⟨S160x512x1024, .f32⟩
  | .hbm, ⟨81, _⟩ => ⟨S160, .i32⟩
  | .hbm, ⟨82, _⟩ => ⟨S_, .i32⟩
  | .hbm, ⟨83, _⟩ => ⟨S160, .i32⟩
  | .hbm, ⟨84, _⟩ => ⟨S160, .i1⟩
  | .hbm, ⟨85, _⟩ => ⟨S160x1x1, .i1⟩
  | .hbm, ⟨86, _⟩ => ⟨S_, .f32⟩
  | .hbm, ⟨87, _⟩ => ⟨S_, .f32⟩
  | .hbm, ⟨88, _⟩ => ⟨S160x512x1024, .i1⟩
  | .hbm, ⟨89, _⟩ => ⟨S160x512x1024, .f32⟩
  | .hbm, ⟨90, _⟩ => ⟨S160x512x1024, .f32⟩
  | .hbm, ⟨91, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x1720 : Shape := ⟨2, ![1024, 1720]⟩
abbrev S1024x384 : Shape := ⟨2, ![1024, 384]⟩
abbrev S1024x512 : Shape := ⟨2, ![1024, 512]⟩
abbrev S1024x768 : Shape := ⟨2, ![1024, 768]⟩
abbrev S1024x32 : Shape := ⟨2, ![1024, 32]⟩
abbrev S1024x24 : Shape := ⟨2, ![1024, 24]⟩
abbrev S_ : Shape := ⟨0, ![]⟩
abbrev S1024x72 : Shape := ⟨2, ![1024, 72]⟩
abbrev S1024x1792 : Shape := ⟨2, ![1024, 1792]⟩
abbrev S1x1024 : Shape := ⟨2, ![1, 1024]⟩
abbrev S16384x384 : Shape := ⟨2, ![16384, 384]⟩
abbrev S16384x512 : Shape := ⟨2, ![16384, 512]⟩
abbrev S6x16384x128 : Shape := ⟨3, ![6, 16384, 128]⟩
abbrev S16384x128 : Shape := ⟨2, ![16384, 128]⟩
abbrev S512x1024 : Shape := ⟨2, ![512, 1024]⟩
abbrev S512x384 : Shape := ⟨2, ![512, 384]⟩
abbrev S512x512 : Shape := ⟨2, ![512, 512]⟩
abbrev S6x512x128 : Shape := ⟨3, ![6, 512, 128]⟩
abbrev S512x128 : Shape := ⟨2, ![512, 128]⟩
abbrev S512 : Shape := ⟨1, ![512]⟩
abbrev S512x1 : Shape := ⟨2, ![512, 1]⟩
abbrev S512x1792 : Shape := ⟨2, ![512, 1792]⟩
abbrev S1x512x128 : Shape := ⟨3, ![1, 512, 128]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1720, .f32⟩
  | .hbm, ⟨3, _⟩ => ⟨S1024x384, .f32⟩
  | .hbm, ⟨4, _⟩ => ⟨S1024x512, .f32⟩
  | .hbm, ⟨5, _⟩ => ⟨S1024x768, .f32⟩
  | .hbm, ⟨6, _⟩ => ⟨S1024x32, .f32⟩
  | .hbm, ⟨7, _⟩ => ⟨S1024x24, .f32⟩
  | .hbm, ⟨8, _⟩ => ⟨S_, .f32⟩
  | .hbm, ⟨9, _⟩ => ⟨S1024x72, .f32⟩
  | .hbm, ⟨10, _⟩ => ⟨S1024x1792, .f32⟩
  | .hbm, ⟨11, _⟩ => ⟨S1024x1792, .bf16⟩
  | .hbm, ⟨12, _⟩ => ⟨S1x1024, .f32⟩
  | .hbm, ⟨13, _⟩ => ⟨S16384x384, .f32⟩
  | .hbm, ⟨14, _⟩ => ⟨S16384x512, .f32⟩
  | .hbm, ⟨15, _⟩ => ⟨S6x16384x128, .f32⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x384, .f32⟩
  | .local _ .vmem, ⟨5, _⟩ => ⟨S512x384, .f32⟩
  | .local _ .vmem, ⟨6, _⟩ => ⟨S512x512, .f32⟩
  | .local _ .vmem, ⟨7, _⟩ => ⟨S512x512, .f32⟩
  | .local _ .vmem, ⟨8, _⟩ => ⟨S6x512x128, .f32⟩
  | .local _ .vmem, ⟨9, _⟩ => ⟨S6x512x128, .f32⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S1024x1720 : Shape := ⟨2, ![1024, 1720]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1720 : Shape := ⟨2, ![16384, 1720]⟩
abbrev S16384x768 : Shape := ⟨2, ![16384, 768]⟩
abbrev S16384x6x128 : Shape := ⟨3, ![16384, 6, 128]⟩
abbrev S6x16384x128 : Shape := ⟨3, ![6, 16384, 128]⟩
abbrev S16384x72 : Shape := ⟨2, ![16384, 72]⟩
abbrev S16384x384 : Shape := ⟨2, ![16384, 384]⟩
abbrev S16384x512 : Shape := ⟨2, ![16384, 512]⟩
abbrev S16384x32 : Shape := ⟨2, ![16384, 32]⟩
abbrev S16384x24 : Shape := ⟨2, ![16384, 24]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1720, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1720, .f32⟩
  | .hbm, ⟨20, _⟩ => ⟨S16384x768, .f32⟩
  | .hbm, ⟨21, _⟩ => ⟨S16384x6x128, .f32⟩
  | .hbm, ⟨22, _⟩ => ⟨S6x16384x128, .f32⟩
  | .hbm, ⟨23, _⟩ => ⟨S_, .f32⟩
  | .hbm, ⟨24, _⟩ => ⟨S16384x72, .f32⟩
  | .hbm, ⟨25, _⟩ => ⟨S16384x384, .f32⟩
  | .hbm, ⟨26, _⟩ => ⟨S16384x512, .f32⟩
  | .hbm, ⟨27, _⟩ => ⟨S16384x32, .f32⟩
  | .hbm, ⟨28, _⟩ => ⟨S16384x24, .f32⟩
  | .hbm, ⟨29, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.AttnMath.lean ====
/- The arithmetic of one attention row over the extended reals: powers of two, the running rescaling of a
   softmax accumulator, and the plain softmax it agrees with. No program appears here. -/
module

public import Idealize.ShloMosaic.Lib.Pointwise

@[expose] public section

noncomputable section

namespace Cert.Attn

open Idealize.ShloMosaic
open scoped BigOperators

/-- Two to the power `a`, as a real: 0 at minus infinity. -/
def w2 (a : EReal) : ℝ := (Ideal.exp2 a).toReal

theorem exp2_coe (r : ℝ) : Ideal.exp2 (r : EReal) = (((2 : ℝ) ^ r : ℝ) : EReal) := rfl

theorem w2_bot : w2 ⊥ = 0 := by
  show (Ideal.exp2 ⊥).toReal = 0
  exact EReal.toReal_zero

theorem w2_coe (r : ℝ) : w2 (r : EReal) = (2 : ℝ) ^ r := by
  unfold w2; rw [exp2_coe, EReal.toReal_coe]

theorem w2_nonneg {a : EReal} (ha : a ≠ ⊤) : 0 ≤ w2 a := by
  induction a with
  | bot => rw [w2_bot]
  | coe r => rw [w2_coe]; positivity
  | top => exact absurd rfl ha

theorem exp2_sub {a : EReal} (ha : a ≠ ⊤) (μ : ℝ) :
    Ideal.exp2 (a - (μ : EReal)) = (((2 : ℝ) ^ (-μ) * w2 a : ℝ) : EReal) := by
  induction a with
  | bot => rw [w2_bot, mul_zero, EReal.bot_sub]; rfl
  | coe r =>
    rw [w2_coe, ← EReal.coe_sub, exp2_coe, sub_eq_add_neg, add_comm, Real.rpow_add (by norm_num)]
  | top => exact absurd rfl ha

/-- A nonnegative real distributes over a finite sum of extended reals. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top _)]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of real rows is real. -/
theorem real_dot {n : ℕ} (a b : Fin n → EReal) (ha : ∀ d, ∃ r : ℝ, a d = r) (hb : ∀ d, ∃ r : ℝ, b d = r) :
    ∃ r : ℝ, ∑ d, a d * b d = r := by
  choose x hx using ha
  choose y hy using hb
  refine ⟨∑ d, x d * y d, ?_⟩
  rw [coe_sum]
  exact Finset.sum_congr rfl fun d _ => by rw [hx, hy, EReal.coe_mul]

/-- One key tile of the running softmax: the accumulator, held relative to the running maximum `μ`, is rescaled to
    `μ'` and takes the tile's weighted values. -/
theorem step {n : ℕ} (acc A : EReal) (μ μ' : ℝ) (hacc : acc = (((2 : ℝ) ^ (-μ) : ℝ) : EReal) * A)
    (s v : Fin n → EReal) (hs : ∀ c, s c ≠ ⊤) :
    Ideal.exp2 ((μ : EReal) - (μ' : EReal)) * acc + ∑ c, Ideal.exp2 (s c - (μ' : EReal)) * v c
      = (((2 : ℝ) ^ (-μ') : ℝ) : EReal) * (A + ∑ c, (w2 (s c) : EReal) * v c) := by
  have hp : (0 : ℝ) ≤ (2 : ℝ) ^ (-μ') := by positivity
  rw [EReal.left_distrib_of_nonneg_of_ne_top (EReal.coe_nonneg.mpr hp) (EReal.coe_ne_top _), mul_sum _ _ hp]
  congr 1
  · rw [hacc, ← mul_assoc, exp2_sub (EReal.coe_ne_top μ), w2_coe, ← EReal.coe_mul]
    congr 2
    rw [mul_assoc, ← Real.rpow_add (by norm_num), add_neg_cancel, Real.rpow_zero, mul_one]
  · refine Finset.sum_congr rfl fun c _ => ?_
    rw [exp2_sub (hs c), EReal.coe_mul, mul_assoc]

/-- The last division: the running maximum cancels. -/
theorem final (μ L : ℝ) (hL : 0 < L) (A : EReal) :
    Ideal.div ((((2 : ℝ) ^ (-μ) : ℝ) : EReal) * A) ((((2 : ℝ) ^ (-μ) : ℝ) : EReal) * (L : EReal))
      = ((L⁻¹ : ℝ) : EReal) * A := by
  have hp : (0 : ℝ) < (2 : ℝ) ^ (-μ) := by positivity
  have hne : (2 : ℝ) ^ (-μ) * L ≠ 0 := (mul_pos hp hL).ne'
  rw [← EReal.coe_mul]
  unfold Ideal.div
  rw [if_neg (by exact_mod_cast hne), ← EReal.coe_inv, mul_assoc, mul_comm A, ← mul_assoc, ← EReal.coe_mul]
  congr 2
  field_simp

theorem exp_coe (r : ℝ) : Ideal.exp (r : EReal) = ((Real.exp r : ℝ) : EReal) := rfl

/-- The plain softmax row. `x` holds the scores in natural units where the mask `p` allows them and minus infinity
    elsewhere; `M` is the row's maximum; `lit` is the floor of the denominator. The weighted values are those of the
    unnormalised base-2 weights, divided once. -/
theorem softmax_row {n : ℕ} (p : Fin n → Prop) [DecidablePred p] (q₀ : Fin n) (hq : p q₀) (sc : Fin n → ℝ)
    (x e v : Fin n → EReal) (M S lit : EReal) (hlit : lit ≤ 1)
    (hx : ∀ k, x k = if p k then ((sc k * Real.log 2 : ℝ) : EReal) else ⊥)
    (hM : M = Finset.univ.fold max ⊥ x)
    (he : ∀ k, e k = if p k then Ideal.exp (x k - M) else 0)
    (hS : S = ∑ k, e k) :
    ∑ k, Ideal.div (e k) (max S lit) * v k
      = (((∑ k, w2 (if p k then (sc k : EReal) else ⊥))⁻¹ : ℝ) : EReal) * ∑ k, (w2 (if p k then (sc k : EReal) else ⊥) : EReal) * v k := by
  -- the maximum is attained at an allowed key
  have hsup : M = Finset.univ.sup x := hM
  obtain ⟨k₀, -, hk₀⟩ := Finset.exists_mem_eq_sup Finset.univ ⟨q₀, Finset.mem_univ _⟩ x
  have hpk : p k₀ := by
    by_contra hn
    have h1 : x q₀ ≤ x k₀ := by rw [← hk₀]; exact Finset.le_sup (f := x) (Finset.mem_univ q₀)
    rw [hx k₀, if_neg hn, hx q₀, if_pos hq] at h1
    exact absurd (le_bot_iff.mp h1) (EReal.coe_ne_bot _)
  set μ : ℝ := sc k₀ * Real.log 2 with hμ
  have hMμ : M = (μ : EReal) := by rw [hsup, hk₀, hx k₀, if_pos hpk]
  set w : Fin n → ℝ := fun k => w2 (if p k then (sc k : EReal) else ⊥) with hw
  have hw0 : ∀ k, 0 ≤ w k := fun k => w2_nonneg (by split <;> simp)
  have hek : ∀ k, e k = ((w k * Real.exp (-μ) : ℝ) : EReal) := by
    intro k
    rw [he k]
    by_cases hp : p k
    · rw [if_pos hp, hx k, if_pos hp, hMμ, ← EReal.coe_sub, exp_coe, hw]
      simp only [if_pos hp]
      rw [w2_coe, Real.rpow_def_of_pos (by norm_num), ← Real.exp_add]
      congr 3; ring
    · rw [if_neg hp, hw]
      simp only [if_neg hp]
      rw [w2_bot, zero_mul]; rfl
  set L : ℝ := ∑ k, w k with hL
  have hSL : S = ((L * Real.exp (-μ) : ℝ) : EReal) := by
    rw [hS, hL, Finset.sum_mul, coe_sum]
    exact Finset.sum_congr rfl fun k _ => hek k
  have h1 : (1 : ℝ) ≤ L * Real.exp (-μ) := by
    have ha : w k₀ * Real.exp (-μ) = 1 := by
      rw [hw]; simp only [if_pos hpk]
      rw [w2_coe, Real.rpow_def_of_pos (by norm_num), ← Real.exp_add, hμ]
      rw [show Real.log 2 * sc k₀ + -(sc k₀ * Real.log 2) = 0 by ring, Real.exp_zero]
    rw [← ha]
    refine mul_le_mul_of_nonneg_right ?_ (Real.exp_pos _).le
    exact Finset.single_le_sum (f := w) (fun k _ => hw0 k) (Finset.mem_univ k₀)
  have hLpos : 0 < L := by
    by_contra hn
    have := mul_nonpos_of_nonpos_of_nonneg (not_lt.mp hn) (Real.exp_pos (-μ)).le
    linarith
  have hmax : max S lit = ((L * Real.exp (-μ) : ℝ) : EReal) := by
    rw [hSL]
    refine max_eq_left (hlit.trans ?_)
    exact_mod_cast h1
  rw [mul_sum _ _ (inv_nonneg.mpr hLpos.le)]
  refine Finset.sum_congr rfl fun k _ => ?_
  rw [hmax, hek k]
  unfold Ideal.div
  rw [if_neg (by
    have : L * Real.exp (-μ) ≠ 0 := by linarith
    exact_mod_cast this), ← EReal.coe_inv, ← EReal.coe_mul, ← mul_assoc, ← EReal.coe_mul]
  congr 2
  have := (Real.exp_pos (-μ)).ne'
  field_simp
  rfl

theorem lit_floor : Ideal.ofBits .f32 0x0DA24260#32 ≤ (1 : EReal) := by
  have h : ∃ r : ℝ, Ideal.ofBits .f32 0x0DA24260#32 = (r : EReal) ∧ r ≤ 1 := by
    refine ⟨_, rfl, ?_⟩
    norm_num [BitVec.extractLsb', Nat.shiftRight_eq_div_pow]
  obtain ⟨r, h, hr⟩ := h
  rw [h]; exact_mod_cast hr

theorem lit_mask : ∃ r : ℝ, Ideal.ofBits .f32 0xF149F2CA#32 = (r : EReal) := ⟨_, rfl⟩

theorem lit_bot : Ideal.ofBits .f32 0xFF800000#32 = (⊥ : EReal) := by
  rfl

theorem lit_two : Ideal.ofBits .f32 0x40000000#32 = ((2 : ℝ) : EReal) := by
  have h : ∃ r : ℝ, Ideal.ofBits .f32 0x40000000#32 = (r : EReal) ∧ r = 2 := by
    refine ⟨_, rfl, ?_⟩
    norm_num [BitVec.extractLsb', Nat.shiftRight_eq_div_pow]
  obtain ⟨r, h, hr⟩ := h
  rw [h, hr]

end Cert.Attn

end
-- ==== Proof.AttnSpec.lean ====
/- Causal attention as one formula over the argument arrays: scores in base 2, unnormalised weights, one division. -/
module

public import proofs.«01_k».proof.Proof.AttnMath
public import Idealize.ShloMosaic.Lib.WordCmp

@[expose] public section

noncomputable section

namespace Cert.Attn

open Idealize.ShloMosaic
open scoped BigOperators

/-- An array over heads, tokens (both batches, one after the other) and lanes. -/
abbrev Arr : Type := FVec Ideal ⟨3, ![8, 16384, 128]⟩ .bf16

/-- A token's row. -/
def row (n : ℕ) : Fin 16384 := ⟨n % 16384, Nat.mod_lt _ (by decide)⟩

/-- Every element is a real number. -/
def Finite (X : Arr) : Prop := ∀ (h : Fin 8) (n : Fin 16384) (d : Fin 128), ∃ r : ℝ, X (ix3 h n d) = (r : EReal)

/-- The score of query row `n` against key row `k` in head `h`. -/
def score (Q K : Arr) (h : Fin 8) (n k : Fin 16384) : EReal := ∑ d : Fin 128, Q (ix3 h n d) * K (ix3 h k d)

/-- The score of query `n` against key `k` of its own batch (`base` the batch's first row, `pos` the query's place in
    it), minus infinity after the query. -/
def masked (Q K : Arr) (h : Fin 8) (base pos : ℕ) (k : ℕ) : EReal :=
  if k ≤ pos then score Q K h (row (base + pos)) (row (base + k)) else ⊥

/-- The weight of key `k`, before any division. -/
def wgt (Q K : Arr) (h : Fin 8) (base pos k : ℕ) : ℝ := w2 (masked Q K h base pos k)

/-- The weighted value of key `k` on lane `l`. -/
def wval (Q K V : Arr) (h : Fin 8) (base pos : ℕ) (l : Fin 128) (k : ℕ) : EReal :=
  (wgt Q K h base pos k : EReal) * V (ix3 h (row (base + k)) l)

/-- The attention of head `h` at query row `base + pos`, lane `l`. -/
def attn (Q K V : Arr) (h : Fin 8) (base pos : ℕ) (l : Fin 128) : EReal :=
  (((∑ k : Fin 8192, wgt Q K h base pos k)⁻¹ : ℝ) : EReal) * ∑ k : Fin 8192, wval Q K V h base pos l k

theorem score_real {Q K : Arr} (hQ : Finite Q) (hK : Finite K) (h : Fin 8) (n k : Fin 16384) :
    ∃ r : ℝ, score Q K h n k = (r : EReal) :=
  real_dot _ _ (fun d => hQ h n d) (fun d => hK h k d)

theorem masked_ne_top {Q K : Arr} (hQ : Finite Q) (hK : Finite K) (h : Fin 8) (base pos k : ℕ) :
    masked Q K h base pos k ≠ ⊤ := by
  unfold masked
  split
  · obtain ⟨r, hr⟩ := score_real hQ hK h (row (base + pos)) (row (base + k))
    rw [hr]; exact EReal.coe_ne_top r
  · exact bot_ne_top

theorem sle_word {a b : ℕ} (ha : a < 2 ^ 31) (hb : b < 2 ^ 31) :
    IntOp.cmpi .sle (BitVec.ofNat 32 a) (BitVec.ofNat 32 b) = BitVec.ofBool (decide (a ≤ b)) := by
  rw [WordCmp.cmpi_sle_eq, WordCmp.toInt_ofNat_of_lt ha, WordCmp.toInt_ofNat_of_lt hb]
  congr 1
  simp

theorem select_ofBool {α : Type} (p : Prop) [Decidable p] (x y : α) :
    Scalar.select (BitVec.ofBool (decide p)) x y = if p then x else y := by
  unfold Scalar.select
  by_cases h : p <;> simp [h]

theorem uitofp_ofBool (p : Prop) [Decidable p] :
    (FloatOps.uitofp (F := Ideal) FTy.f32 (BitVec.ofBool (decide p)) : EReal) = if p then 1 else 0 := by
  show (((BitVec.ofBool (decide p)).toNat : ℝ) : EReal) = _
  by_cases h : p <;> simp [h]

end Cert.Attn

end
-- ==== Proof.AttnHead.lean ====
/- One head of one point of the attention: the online softmax step as two vector programs, read at an index. -/
module

public import proofs.«01_k».proof.Proof.Gen.KernelIdeal.Skeleton
public import proofs.«01_k».proof.Proof.AttnSpec
public import Idealize.ShloMosaic.Lib.Pointwise
public import Idealize.ShloMosaic.Lib.Pipeline.ValueKit
public import Idealize.ShloMosaic.Lib.Tactic.CleanTypes

@[expose] public section

set_option maxRecDepth 16384

noncomputable section

namespace Cert.KernelIdeal.Value

open Idealize.ShloMosaic Idealize.ShloMosaic.TcCoe Idealize.SL.Sem
open Cert.KernelIdeal Cert.KernelIdeal.Gen Cert.Attn

/-- Head `h` of a block. -/
def slab {e : EltTy} (X : Vec Ideal S8x512x128 e) (h : Fin 8) : Vec Ideal S1x512x128 e := fun i => X (ix3 h (i 1) (i 2))

theorem ld_slab {e : EltTy} (X : Vec Ideal S8x512x128 e) (off : Fin 3 → ℕ) (inb : ∀ a, off a + (![1, 512, 128] : Fin 3 → ℕ) a ≤ S8x512x128.size a)
    (h : Fin 8) (h0 : off 0 = h.val) (h1 : off 1 = 0) (h2 : off 2 = 0) :
    View.ld (Val := Elt Ideal) (e' := e) X (Rect.unit (s := S8x512x128) off ![1, 512, 128] inb) = slab X h := by
  funext x
  show X _ = X _
  congr 1
  funext a
  apply Fin.ext
  rw [Rect.idx_unit_val]
  have hx : (x 0 : ℕ) < 1 := (x 0).isLt
  match a with
  | ⟨0, _⟩ => show off 0 + (x 0 : ℕ) = h.val; omega
  | ⟨1, _⟩ => show off 1 + (x 1 : ℕ) = (x 1).val; omega
  | ⟨2, _⟩ => show off 2 + (x 2 : ℕ) = (x 2).val; omega

/-- The scores of one tile. -/
def scU (q k : Vec Ideal S1x512x128 .bf16) : FVec Ideal S512x512 .f32 :=
  matmul (φ₁ := .bf16) (φ₂ := .bf16) dot_S512x128_S512x128_S512x512_1_1_0_0_n_n none (shapeCast S512x128 q shapeCasts_S1x512x128_S512x128)
    (shapeCast S512x128 k shapeCasts_S1x512x128_S512x128) (constant S512x512 .f32 0x00000000#32)

/-- The scores of a diagonal tile: minus infinity after the query. -/
def scM (q k : Vec Ideal S1x512x128 .bf16) : FVec Ideal S512x512 .f32 :=
  select (cmpi .sle (iota .tc S512x512 32 [1] iota_S512x512_d1_w32) (iota .tc S512x512 32 [0] iota_S512x512_d0_w32)) (scU q k)
    (broadcast S512x512 (Scalar.ofBits .f32 0xFF800000#32))

def sl0 (s : FVec Ideal S512x512 .f32) : FVec Ideal S512x128 .f32 := extractStridedSlice S512x128 ![0, 0] s slices_S512x512_o0_0_S512x128
def sl1 (s : FVec Ideal S512x512 .f32) : FVec Ideal S512x128 .f32 := extractStridedSlice S512x128 ![0, 128] s slices_S512x512_o0_128_S512x128
def sl2 (s : FVec Ideal S512x512 .f32) : FVec Ideal S512x128 .f32 := extractStridedSlice S512x128 ![0, 256] s slices_S512x512_o0_256_S512x128
def sl3 (s : FVec Ideal S512x512 .f32) : FVec Ideal S512x128 .f32 := extractStridedSlice S512x128 ![0, 384] s slices_S512x512_o0_384_S512x128

/-- The new running maximum. -/
def mNew (s : FVec Ideal S512x512 .f32) (mo : Vec Ideal S1x512x128 .f32) : FVec Ideal S512x128 .f32 :=
  maximumf (shapeCast S512x128 mo shapeCasts_S1x512x128_S512x128)
    (broadcastTo S512x128 (shapeCast S512x1 (multiReduction .maximumf [1] S512 (maximumf (maximumf (maximumf (sl0 s) (sl1 s)) (sl2 s)) (sl3 s))
      0xFF800000#32 reduces_S512x128_S512 (.inl rfl) rfl) shapeCasts_S512_S512x1) broadcasts_S512x1_S512x128)

def pw (a b : FVec Ideal S512x128 .f32) : FVec Ideal S512x128 .bf16 := exp2 (truncf .bf16 (subf a b) bitsLt_bf16_f32)

/-- The new accumulator. -/
def aNew (s : FVec Ideal S512x512 .f32) (mo ao : Vec Ideal S1x512x128 .f32) (v : Vec Ideal S1x512x128 .bf16) : FVec Ideal S512x128 .f32 :=
  addf (mulf (exp2 (subf (shapeCast S512x128 mo shapeCasts_S1x512x128_S512x128) (mNew s mo))) (shapeCast S512x128 ao shapeCasts_S1x512x128_S512x128))
    (matmul (φ₁ := .bf16) (φ₂ := .bf16) dot_S512x512_S512x128_S512x128_1_0_0_1_n_n none
      (concatenate S512x512 1 [⟨S512x128, pw (sl0 s) (mNew s mo)⟩, ⟨S512x128, pw (sl1 s) (mNew s mo)⟩, ⟨S512x128, pw (sl2 s) (mNew s mo)⟩,
        ⟨S512x128, pw (sl3 s) (mNew s mo)⟩] concatenates_S512x128_S512x128_S512x128_S512x128_S512x512_d1)
      (shapeCast S512x128 v shapeCasts_S1x512x128_S512x128) (constant S512x128 .f32 0x00000000#32))

def hM (s : FVec Ideal S512x512 .f32) (mo : Vec Ideal S1x512x128 .f32) : FVec Ideal S1x512x128 .f32 :=
  shapeCast S1x512x128 (mNew s mo) shapeCasts_S512x128_S1x512x128
def hA (s : FVec Ideal S512x512 .f32) (mo ao : Vec Ideal S1x512x128 .f32) (v : Vec Ideal S1x512x128 .bf16) : FVec Ideal S1x512x128 .f32 :=
  shapeCast S1x512x128 (aNew s mo ao v) shapeCasts_S512x128_S1x512x128

/-- A row's maximum over one tile. -/
def rowMax (s : FVec Ideal S512x512 .f32) (r : Fin 512) : EReal :=
  Finset.univ.fold max ⊥ fun l : Fin 128 => max (max (max (s (ix2 r ⟨l, by omega⟩)) (s (ix2 r ⟨128 + l, by omega⟩))) (s (ix2 r ⟨256 + l, by omega⟩))) (s (ix2 r ⟨384 + l, by omega⟩))

theorem scU_at (q k : Vec Ideal S1x512x128 .bf16) (r c : Fin 512) : scU q k (ix2 r c) = ∑ d : Fin 128, q (ix3 0 r d) * k (ix3 0 c d) := by
  pointwise [scU]

theorem scM_at (q k : Vec Ideal S1x512x128 .bf16) (r c : Fin 512) :
    scM q k (ix2 r c) = if c.val ≤ r.val then ∑ d : Fin 128, q (ix3 0 r d) * k (ix3 0 c d) else ⊥ := by
  have hs : IntOp.cmpi .sle (BitVec.ofNat 32 c.val) (BitVec.ofNat 32 r.val) = BitVec.ofBool (decide (c.val ≤ r.val)) := sle_word (by omega) (by omega)
  pointwise [scM, scU]
  rw [hs, select_ofBool, lit_bot]

theorem mNew_at (s : FVec Ideal S512x512 .f32) (mo : Vec Ideal S1x512x128 .f32) (r : Fin 512) (l : Fin 128) :
    mNew s mo (ix2 r l) = max (mo (ix3 0 r l)) (rowMax s r) := by
  pointwise [mNew, sl0, sl1, sl2, sl3, rowMax, lit_bot]

theorem aNew_at (s : FVec Ideal S512x512 .f32) (mo ao : Vec Ideal S1x512x128 .f32) (v : Vec Ideal S1x512x128 .bf16) (r : Fin 512) (l : Fin 128)
    (μ : EReal) (hμ : ∀ l, mo (ix3 0 r l) = μ) :
    aNew s mo ao v (ix2 r l) = Ideal.exp2 (μ - max μ (rowMax s r)) * ao (ix3 0 r l)
      + ∑ c : Fin 512, Ideal.exp2 (s (ix2 r c) - max μ (rowMax s r)) * v (ix3 0 c l) := by
  have e : ∀ l, mNew s mo (ix2 r l) = max μ (rowMax s r) := fun l => by rw [mNew_at, hμ]
  pointwise [aNew, pw, sl0, sl1, sl2, sl3, e, hμ]
  refine congrArg _ (Finset.sum_congr rfl fun x _ => congrArg (· * _) ?_)
  have hx : x.val < 512 := x.isLt
  have g : ∀ (y : Fin 512), y.val = x.val → FloatOps.exp2 (F := Ideal) (φ := .bf16) (s (ix2 r y) - max μ (rowMax s r))
      = Ideal.exp2 (s (ix2 r x) - max μ (rowMax s r)) := fun y hy => by rw [Fin.ext hy]; rfl
  by_cases a : x.val < 128
  · rw [dif_pos a]; exact g _ rfl
  rw [dif_neg a]
  by_cases b : x.val - 128 < 128
  · rw [dif_pos b]; exact g _ (by dsimp only; omega)
  rw [dif_neg b]
  by_cases d : x.val - 128 - 128 < 128
  · rw [dif_pos d]; exact g _ (by dsimp only; omega)
  rw [dif_neg d]; exact g _ (by dsimp only; omega)

end Cert.KernelIdeal.Value

end
-- ==== Proof.AttnPoint.lean ====
/- What one grid point leaves in the running maximum and the accumulator, head by head. -/
module

public import proofs.«01_k».proof.Proof.Gen.KernelIdeal.Frame
public import proofs.«01_k».proof.Proof.AttnHead
public import Idealize.ShloMosaic.Lib.Pipeline.ReadBack

@[expose] public section

set_option maxRecDepth 16384

noncomputable section

namespace Cert.KernelIdeal.Value

open Idealize.ShloMosaic Idealize.ShloMosaic.TcCoe Idealize.SL.Sem
open Idealize.ShloMosaic.Pipeline
open Cert.KernelIdeal Cert.KernelIdeal.Gen Cert.Attn

variable (m : (ℓ : Loc nD τ sig) → Buf (Elt Ideal) ℓ)

/-- The piece of head `k` at its own index. -/
theorem piece_idx {x : S1x512x128.Idx} {h : Fin 8} {r : Fin 512} {l : Fin 128} (k : Fin 8) (g0 : h.val = k.val + (x 0).val)
    (g1 : r.val = (x 1).val) (g2 : l.val = (x 2).val) : h = k ∧ x = ix3 0 r l := by
  have hx : (x 0).val < 1 := (x 0).isLt
  refine ⟨Fin.ext (by omega), ?_⟩
  funext a
  apply Fin.ext
  match a with
  | ⟨0, _⟩ => show (x 0).val = 0; omega
  | ⟨1, _⟩ => exact g1.symm
  | ⟨2, _⟩ => exact g2.symm

/-- Stores that cover the buffer hide whatever was stored before them. -/
theorem canon_drop {Val : EltTy → Type} [∀ e, Nonempty (Val e)] {S : Shape} {e : EltTy} : ∀ (L L' : List (View.Piece Val S e)) (y : S.Idx),
    (∃ p ∈ L, y ∈ p.1.set) → View.canon (Val := Val) (s := S) (e := e) (L ++ L') y = View.canon (Val := Val) (s := S) (e := e) L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_drop L L' y ?_
      obtain ⟨q, hq, hyq⟩ := hc
      rcases List.mem_cons.mp hq with rfl | hq'
      · exact absurd hyq hm
      · exact ⟨q, hq', hyq⟩

/-- The stored quotient of head `k` at its own index. -/
theorem qpiece_idx {x : S512x64.Idx} {r j : Fin 512} (k : Fin 8) (g0 : r.val = (x 0).val) (g1 : j.val = k.val * 64 + (x 1).val) :
    (⟨j.val / 64, by omega⟩ : Fin 8) = k ∧ x = ix2 r ⟨j.val % 64, Nat.mod_lt _ (by decide)⟩ := by
  have hx : (x 1).val < 64 := (x 1).isLt
  refine ⟨Fin.ext (by show j.val / 64 = k.val; omega), ?_⟩
  funext a
  apply Fin.ext
  match a with
  | ⟨0, _⟩ => exact g0.symm
  | ⟨1, _⟩ => show (x 1).val = j.val % 64; omega

theorem point_A_M (c : Dev nD) (t : Fin cfg0.N) (h0 : t.val % 16 = 0) (h1 : ¬t.val % 16 + 1 ≤ t.val / 16 % 16) (h2 : t.val / 16 % 16 = t.val % 16) (h3 : ¬t.val % 16 = 15) (h : Fin 8) (r : Fin 512) (l : Fin 128) :
    (outsAt0 m c t.val t.isLt).2.1 (ix3 h r l) = hM (scM (slab (iblk m c 0 t) h) (slab (iblk m c 1 t) h)) (slab (k0_pay1 (F := Ideal)) h) (ix3 0 r l) := by
  rw [outsAt0_A m c t h0 h1 h2 h3]
  frame_open
  simp (disch := decide) only [↓ View.readCov_skip, ↓ View.readCov_cons_toLoadRect, ↓ View.readCov_fill]
  frame_out
  clear h0 h1 h2 h3
  refine (canon_drop [_, _, _, _, _, _, _, _] [_] (ix3 h r l) (View.cover_of_tiled_head _ _ _ rfl _)).trans ?_
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_A_A (c : Dev nD) (t : Fin cfg0.N) (h0 : t.val % 16 = 0) (h1 : ¬t.val % 16 + 1 ≤ t.val / 16 % 16) (h2 : t.val / 16 % 16 = t.val % 16) (h3 : ¬t.val % 16 = 15) (h : Fin 8) (r : Fin 512) (l : Fin 128) :
    (outsAt0 m c t.val t.isLt).2.2 (ix3 h r l) = hA (scM (slab (iblk m c 0 t) h) (slab (iblk m c 1 t) h)) (slab (k0_pay1 (F := Ideal)) h) (slab (k0_pay2 (F := Ideal)) h) (slab (iblk m c 2 t) h) (ix3 0 r l) := by
  rw [outsAt0_A m c t h0 h1 h2 h3]
  frame_open
  simp (disch := decide) only [↓ View.readCov_skip, ↓ View.readCov_cons_toLoadRect, ↓ View.readCov_fill]
  frame_out
  clear h0 h1 h2 h3
  refine (canon_drop [_, _, _, _, _, _, _, _] [_] (ix3 h r l) (View.cover_of_tiled_head _ _ _ rfl _)).trans ?_
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_D_M (c : Dev nD) (t : Fin cfg0.N) (h0 : t.val % 16 = 0) (h1 : t.val % 16 + 1 ≤ t.val / 16 % 16) (h2 : ¬t.val / 16 % 16 = t.val % 16) (h3 : ¬t.val % 16 = 15) (h : Fin 8) (r : Fin 512) (l : Fin 128) :
    (outsAt0 m c t.val t.isLt).2.1 (ix3 h r l) = hM (scU (slab (iblk m c 0 t) h) (slab (iblk m c 1 t) h)) (slab (k0_pay1 (F := Ideal)) h) (ix3 0 r l) := by
  rw [outsAt0_D m c t h0 h1 h2 h3]
  frame_open
  simp (disch := decide) only [↓ View.readCov_skip, ↓ View.readCov_cons_toLoadRect, ↓ View.readCov_fill]
  frame_out
  clear h0 h1 h2 h3
  refine (canon_drop [_, _, _, _, _, _, _, _] [_] (ix3 h r l) (View.cover_of_tiled_head _ _ _ rfl _)).trans ?_
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_D_A (c : Dev nD) (t : Fin cfg0.N) (h0 : t.val % 16 = 0) (h1 : t.val % 16 + 1 ≤ t.val / 16 % 16) (h2 : ¬t.val / 16 % 16 = t.val % 16) (h3 : ¬t.val % 16 = 15) (h : Fin 8) (r : Fin 512) (l : Fin 128) :
    (outsAt0 m c t.val t.isLt).2.2 (ix3 h r l) = hA (scU (slab (iblk m c 0 t) h) (slab (iblk m c 1 t) h)) (slab (k0_pay1 (F := Ideal)) h) (slab (k0_pay2 (F := Ideal)) h) (slab (iblk m c 2 t) h) (ix3 0 r l) := by
  rw [outsAt0_D m c t h0 h1 h2 h3]
  frame_open
  simp (disch := decide) only [↓ View.readCov_skip, ↓ View.readCov_cons_toLoadRect, ↓ View.readCov_fill]
  frame_out
  clear h0 h1 h2 h3
  refine (canon_drop [_, _, _, _, _, _, _, _] [_] (ix3 h r l) (View.cover_of_tiled_head _ _ _ rfl _)).trans ?_
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_E_M (c : Dev nD) (t : Fin cfg0.N) (h0 : ¬t.val % 16 = 0) (h1 : ¬t.val % 16 + 1 ≤ t.val / 16 % 16) (h2 : t.val / 16 % 16 = t.val % 16) (h3 : ¬t.val % 16 = 15) (h : Fin 8) (r : Fin 512) (l : Fin 128) :
    (outsAt0 m c t.val t.isLt).2.1 (ix3 h r l) = hM (scM (slab (iblk m c 0 t) h) (slab (iblk m c 1 t) h)) (slab (outsAt0 m c (t.val - 1) (Nat.lt_of_le_of_lt (Nat.sub_le _ _) t.isLt)).2.1 h) (ix3 0 r l) := by
  rw [outsAt0_E m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_E_A (c : Dev nD) (t : Fin cfg0.N) (h0 : ¬t.val % 16 = 0) (h1 : ¬t.val % 16 + 1 ≤ t.val / 16 % 16) (h2 : t.val / 16 % 16 = t.val % 16) (h3 : ¬t.val % 16 = 15) (h : Fin 8) (r : Fin 512) (l : Fin 128) :
    (outsAt0 m c t.val t.isLt).2.2 (ix3 h r l) = hA (scM (slab (iblk m c 0 t) h) (slab (iblk m c 1 t) h)) (slab (outsAt0 m c (t.val - 1) (Nat.lt_of_le_of_lt (Nat.sub_le _ _) t.isLt)).2.1 h) (slab (outsAt0 m c (t.val - 1) (Nat.lt_of_le_of_lt (Nat.sub_le _ _) t.isLt)).2.2 h) (slab (iblk m c 2 t) h) (ix3 0 r l) := by
  rw [outsAt0_E m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_F_M (c : Dev nD) (t : Fin cfg0.N) (h0 : ¬t.val % 16 = 0) (h1 : t.val % 16 + 1 ≤ t.val / 16 % 16) (h2 : ¬t.val / 16 % 16 = t.val % 16) (h3 : ¬t.val % 16 = 15) (h : Fin 8) (r : Fin 512) (l : Fin 128) :
    (outsAt0 m c t.val t.isLt).2.1 (ix3 h r l) = hM (scU (slab (iblk m c 0 t) h) (slab (iblk m c 1 t) h)) (slab (outsAt0 m c (t.val - 1) (Nat.lt_of_le_of_lt (Nat.sub_le _ _) t.isLt)).2.1 h) (ix3 0 r l) := by
  rw [outsAt0_F m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_F_A (c : Dev nD) (t : Fin cfg0.N) (h0 : ¬t.val % 16 = 0) (h1 : t.val % 16 + 1 ≤ t.val / 16 % 16) (h2 : ¬t.val / 16 % 16 = t.val % 16) (h3 : ¬t.val % 16 = 15) (h : Fin 8) (r : Fin 512) (l : Fin 128) :
    (outsAt0 m c t.val t.isLt).2.2 (ix3 h r l) = hA (scU (slab (iblk m c 0 t) h) (slab (iblk m c 1 t) h)) (slab (outsAt0 m c (t.val - 1) (Nat.lt_of_le_of_lt (Nat.sub_le _ _) t.isLt)).2.1 h) (slab (outsAt0 m c (t.val - 1) (Nat.lt_of_le_of_lt (Nat.sub_le _ _) t.isLt)).2.2 h) (slab (iblk m c 2 t) h) (ix3 0 r l) := by
  rw [outsAt0_F m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_G_M (c : Dev nD) (t : Fin cfg0.N) (h0 : ¬t.val % 16 = 0) (h1 : ¬t.val % 16 + 1 ≤ t.val / 16 % 16) (h2 : t.val / 16 % 16 = t.val % 16) (h3 : t.val % 16 = 15) (h : Fin 8) (r : Fin 512) (l : Fin 128) :
    (outsAt0 m c t.val t.isLt).2.1 (ix3 h r l) = hM (scM (slab (iblk m c 0 t) h) (slab (iblk m c 1 t) h)) (slab (outsAt0 m c (t.val - 1) (Nat.lt_of_le_of_lt (Nat.sub_le _ _) t.isLt)).2.1 h) (ix3 0 r l) := by
  rw [outsAt0_G m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

theorem point_G_A (c : Dev nD) (t : Fin cfg0.N) (h0 : ¬t.val % 16 = 0) (h1 : ¬t.val % 16 + 1 ≤ t.val / 16 % 16) (h2 : t.val / 16 % 16 = t.val % 16) (h3 : t.val % 16 = 15) (h : Fin 8) (r : Fin 512) (l : Fin 128) :
    (outsAt0 m c t.val t.isLt).2.2 (ix3 h r l) = hA (scM (slab (iblk m c 0 t) h) (slab (iblk m c 1 t) h)) (slab (outsAt0 m c (t.val - 1) (Nat.lt_of_le_of_lt (Nat.sub_le _ _) t.isLt)).2.1 h) (slab (outsAt0 m c (t.val - 1) (Nat.lt_of_le_of_lt (Nat.sub_le _ _) t.isLt)).2.2 h) (slab (iblk m c 2 t) h) (ix3 0 r l) := by
  rw [outsAt0_G m c t h0 h1 h2 h3]
  frame_out
  simp only [read_unread_whole]
  clear h0 h1 h2 h3
  canon_tiles x g
  · obtain ⟨rfl, rfl⟩ := piece_idx (h := h) (r := r) (l := l) 7 g0 g1 g2
    simp only [ld_slab _ ![7, 0, 0] inb_S8x512x128_S1x512x128_7_0_0 7 rfl rfl rfl]
    rfl
  · obtain ⟨rfl, rfl⟩ := piece_idx (h := h) (r := r) (l := l) 6 g0 g1 g2
    simp only [ld_slab _ ![6, 0, 0] inb_S8x512x128_S1x512x128_6_0_0 6 rfl rfl rfl]
    rfl
  · obtain ⟨rfl, rfl⟩ := piece_idx (h := h) (r := r) (l := l) 5 g0 g1 g2
    simp only [ld_slab _ ![5, 0, 0] inb_S8x512x128_S1x512x128_5_0_0 5 rfl rfl rfl]
    rfl
  · obtain ⟨rfl, rfl⟩ := piece_idx (h := h) (r := r) (l := l) 4 g0 g1 g2
    simp only [ld_slab _ ![4, 0, 0] inb_S8x512x128_S1x512x128_4_0_0 4 rfl rfl rfl]
    rfl
  · obtain ⟨rfl, rfl⟩ := piece_idx (h := h) (r := r) (l := l) 3 g0 g1 g2
    simp only [ld_slab _ ![3, 0, 0] inb_S8x512x128_S1x512x128_3_0_0 3 rfl rfl rfl]
    rfl
  · obtain ⟨rfl, rfl⟩ := piece_idx (h := h) (r := r) (l := l) 2 g0 g1 g2
    simp only [ld_slab _ ![2, 0, 0] inb_S8x512x128_S1x512x128_2_0_0 2 rfl rfl rfl]
    rfl
  · obtain ⟨rfl, rfl⟩ := piece_idx (h := h) (r := r) (l := l) 1 g0 g1 g2
    simp only [ld_slab _ ![1, 0, 0] inb_S8x512x128_S1x512x128_1_0_0 1 rfl rfl rfl]
    rfl
  · obtain ⟨rfl, rfl⟩ := piece_idx (h := h) (r := r) (l := l) 0 (g0.trans (Nat.zero_add _).symm) g1 g2
    simp only [ld_slab _ ![0, 0, 0] inb_S8x512x128_S1x512x128_0_0_0 0 rfl rfl rfl]
    rfl

/-- The quotient of one head's accumulator: each value lane over lane 64. -/
def quot (a : Vec Ideal S1x512x128 .f32) : FVec Ideal S512x64 .f32 :=
  divf (extractStridedSlice S512x64 ![0, 0] (shapeCast S512x128 a shapeCasts_S1x512x128_S512x128) slices_S512x128_o0_0_S512x64)
    (broadcastTo S512x64 (extractStridedSlice S512x1 ![0, 64] (shapeCast S512x128 a shapeCasts_S1x512x128_S512x128) slices_S512x128_o0_64_S512x1)
      broadcasts_S512x1_S512x64)

theorem quot_at (a : Vec Ideal S1x512x128 .f32) (r : Fin 512) (d : Fin 64) :
    quot a (ix2 r d) = Ideal.div (a (ix3 0 r ⟨d, by omega⟩)) (a (ix3 0 r 64)) := by
  pointwise [quot]

theorem point_C_out (c : Dev nD) (t : Fin cfg0.N) (h0 : ¬t.val % 16 = 0) (h1 : ¬t.val % 16 + 1 ≤ t.val / 16 % 16) (h2 : ¬t.val / 16 % 16 = t.val % 16) (h3 : t.val % 16 = 15) (r : Fin 512) (j : Fin 512) :
    (outsAt0 m c t.val t.isLt).1 (ix2 r j) = quot (slab (outsAt0 m c (t.val - 1) (Nat.lt_of_le_of_lt (Nat.sub_le _ _) t.isLt)).2.2 ⟨j.val / 64, by omega⟩) (ix2 r ⟨j.val % 64, Nat.mod_lt _ (by decide)⟩) := by
  rw [outsAt0_C m c t h0 h1 h2 h3]
  frame_open
  simp (disch := decide) only [↓ View.readCov_skip, ↓ View.readCov_cons_toLoadRect, ↓ View.readCov_fill]
  frame_out
  try simp only [read_unread_whole]
  clear h0 h1 h2 h3
  canon_tiles x g
  · obtain ⟨e, rfl⟩ := qpiece_idx (r := r) (j := j) 7 g0 g1
    simp only [ld_slab _ ![7, 0, 0] inb_S8x512x128_S1x512x128_7_0_0 7 rfl rfl rfl, e]
    rfl
  · obtain ⟨e, rfl⟩ := qpiece_idx (r := r) (j := j) 6 g0 g1
    simp only [ld_slab _ ![6, 0, 0] inb_S8x512x128_S1x512x128_6_0_0 6 rfl rfl rfl, e]
    rfl
  · obtain ⟨e, rfl⟩ := qpiece_idx (r := r) (j := j) 5 g0 g1
    simp only [ld_slab _ ![5, 0, 0] inb_S8x512x128_S1x512x128_5_0_0 5 rfl rfl rfl, e]
    rfl
  · obtain ⟨e, rfl⟩ := qpiece_idx (r := r) (j := j) 4 g0 g1
    simp only [ld_slab _ ![4, 0, 0] inb_S8x512x128_S1x512x128_4_0_0 4 rfl rfl rfl, e]
    rfl
  · obtain ⟨e, rfl⟩ := qpiece_idx (r := r) (j := j) 3 g0 g1
    simp only [ld_slab _ ![3, 0, 0] inb_S8x512x128_S1x512x128_3_0_0 3 rfl rfl rfl, e]
    rfl
  · obtain ⟨e, rfl⟩ := qpiece_idx (r := r) (j := j) 2 g0 g1
    simp only [ld_slab _ ![2, 0, 0] inb_S8x512x128_S1x512x128_2_0_0 2 rfl rfl rfl, e]
    rfl
  · obtain ⟨e, rfl⟩ := qpiece_idx (r := r) (j := j) 1 g0 g1
    simp only [ld_slab _ ![1, 0, 0] inb_S8x512x128_S1x512x128_1_0_0 1 rfl rfl rfl, e]
    rfl
  · obtain ⟨e, rfl⟩ := qpiece_idx (r := r) (j := j) 0 g0 (g1.trans (Nat.zero_add _).symm)
    simp only [ld_slab _ ![0, 0, 0] inb_S8x512x128_S1x512x128_0_0_0 0 rfl rfl rfl, e]
    rfl

theorem point_G_out (c : Dev nD) (t : Fin cfg0.N) (h0 : ¬t.val % 16 = 0) (h1 : ¬t.val % 16 + 1 ≤ t.val / 16 % 16) (h2 : t.val / 16 % 16 = t.val % 16) (h3 : t.val % 16 = 15) (r : Fin 512) (j : Fin 512) :
    (outsAt0 m c t.val t.isLt).1 (ix2 r j) = quot (hA (scM (slab (iblk m c 0 t) ⟨j.val / 64, by omega⟩) (slab (iblk m c 1 t) ⟨j.val / 64, by omega⟩)) (slab (outsAt0 m c (t.val - 1) (Nat.lt_of_le_of_lt (Nat.sub_le _ _) t.isLt)).2.1 ⟨j.val / 64, by omega⟩) (slab (outsAt0 m c (t.val - 1) (Nat.lt_of_le_of_lt (Nat.sub_le _ _) t.isLt)).2.2 ⟨j.val / 64, by omega⟩) (slab (iblk m c 2 t) ⟨j.val / 64, by omega⟩)) (ix2 r ⟨j.val % 64, Nat.mod_lt _ (by decide)⟩) := by
  rw [outsAt0_G m c t h0 h1 h2 h3]
  frame_open
  simp (disch := decide) only [↓ View.readCov_skip, ↓ View.readCov_cons_toLoadRect, ↓ View.readCov_fill]
  frame_out
  try simp only [read_unread_whole]
  clear h0 h1 h2 h3
  canon_tiles x g
  · obtain ⟨e, rfl⟩ := qpiece_idx (r := r) (j := j) 7 g0 g1
    simp only [ld_slab _ ![7, 0, 0] inb_S8x512x128_S1x512x128_7_0_0 7 rfl rfl rfl, e]
    rfl
  · obtain ⟨e, rfl⟩ := qpiece_idx (r := r) (j := j) 6 g0 g1
    simp only [ld_slab _ ![6, 0, 0] inb_S8x512x128_S1x512x128_6_0_0 6 rfl rfl rfl, e]
    rfl
  · obtain ⟨e, rfl⟩ := qpiece_idx (r := r) (j := j) 5 g0 g1
    simp only [ld_slab _ ![5, 0, 0] inb_S8x512x128_S1x512x128_5_0_0 5 rfl rfl rfl, e]
    rfl
  · obtain ⟨e, rfl⟩ := qpiece_idx (r := r) (j := j) 4 g0 g1
    simp only [ld_slab _ ![4, 0, 0] inb_S8x512x128_S1x512x128_4_0_0 4 rfl rfl rfl, e]
    rfl
  · obtain ⟨e, rfl⟩ := qpiece_idx (r := r) (j := j) 3 g0 g1
    simp only [ld_slab _ ![3, 0, 0] inb_S8x512x128_S1x512x128_3_0_0 3 rfl rfl rfl, e]
    rfl
  · obtain ⟨e, rfl⟩ := qpiece_idx (r := r) (j := j) 2 g0 g1
    simp only [ld_slab _ ![2, 0, 0] inb_S8x512x128_S1x512x128_2_0_0 2 rfl rfl rfl, e]
    rfl
  · obtain ⟨e, rfl⟩ := qpiece_idx (r := r) (j := j) 1 g0 g1
    simp only [ld_slab _ ![1, 0, 0] inb_S8x512x128_S1x512x128_1_0_0 1 rfl rfl rfl, e]
    rfl
  · obtain ⟨e, rfl⟩ := qpiece_idx (r := r) (j := j) 0 g0 (g1.trans (Nat.zero_add _).symm)
    simp only [ld_slab _ ![0, 0, 0] inb_S8x512x128_S1x512x128_0_0_0 0 rfl rfl rfl, e]
    rfl

end Cert.KernelIdeal.Value

end
-- ==== Proof.AttnStep.lean ====
/- The step of one head as mathematics, and the sums over the keys tile by tile. -/
module

public import proofs.«01_k».proof.Proof.AttnHead

@[expose] public section

set_option maxRecDepth 16384

noncomputable section

namespace Cert.Attn

open Idealize.ShloMosaic
open scoped BigOperators

theorem fold_max_ne_top {ι : Type*} (s : Finset ι) (f : ι → EReal) (hf : ∀ i, f i ≠ ⊤) : s.fold max ⊥ f ≠ ⊤ := by
  classical
  induction s using Finset.induction_on with
  | empty => simp
  | insert a s ha ih =>
    rw [Finset.fold_insert ha]
    exact (max_lt (lt_top_iff_ne_top.2 (hf a)) (lt_top_iff_ne_top.2 ih)).ne

/-- The first `n` keys' weighted values. -/
def psum (Q K V : Arr) (h : Fin 8) (base pos : ℕ) (l : Fin 128) (n : ℕ) : EReal := ∑ k ∈ Finset.range n, wval Q K V h base pos l k

theorem psum_add (Q K V : Arr) (h : Fin 8) (base pos : ℕ) (l : Fin 128) (n T : ℕ) :
    psum Q K V h base pos l (n + T) = psum Q K V h base pos l n + ∑ c : Fin T, wval Q K V h base pos l (n + c) := by
  unfold psum
  rw [Finset.sum_range_add, Finset.sum_range fun c => wval Q K V h base pos l (n + c)]

theorem wgt_after (Q K : Arr) (h : Fin 8) (base pos k : ℕ) (hk : pos < k) : wgt Q K h base pos k = 0 := by
  unfold wgt masked
  rw [if_neg (by omega), w2_bot]

theorem wval_after (Q K V : Arr) (h : Fin 8) (base pos : ℕ) (l : Fin 128) (k : ℕ) (hk : pos < k) : wval Q K V h base pos l k = 0 := by
  unfold wval
  rw [wgt_after Q K h base pos k hk, EReal.coe_zero, zero_mul]

/-- Keys after the query add nothing. -/
theorem psum_all (Q K V : Arr) (h : Fin 8) (base pos : ℕ) (l : Fin 128) (n : ℕ) (hn : pos < n) (hn' : n ≤ 8192) :
    psum Q K V h base pos l n = ∑ k : Fin 8192, wval Q K V h base pos l k := by
  rw [← Finset.sum_range fun k => wval Q K V h base pos l k]
  unfold psum
  refine Finset.sum_subset (fun k hk => by simp only [Finset.mem_range] at hk ⊢; omega) fun k _ hk => ?_
  exact wval_after Q K V h base pos l k (by simp only [Finset.mem_range] at hk; omega)

theorem wgt_nonneg {Q K : Arr} (hQ : Finite Q) (hK : Finite K) (h : Fin 8) (base pos k : ℕ) : 0 ≤ wgt Q K h base pos k :=
  w2_nonneg (masked_ne_top hQ hK h base pos k)

theorem denom_pos {Q K : Arr} (hQ : Finite Q) (hK : Finite K) (h : Fin 8) (base pos : ℕ) (hp : pos < 8192) :
    0 < ∑ k : Fin 8192, wgt Q K h base pos k := by
  refine Finset.sum_pos' (fun k _ => wgt_nonneg hQ hK h base pos k) ⟨⟨pos, hp⟩, Finset.mem_univ _, ?_⟩
  unfold wgt masked
  rw [if_pos le_rfl]
  obtain ⟨r, hr⟩ := score_real hQ hK h (row (base + pos)) (row (base + pos))
  rw [hr, w2_coe]
  positivity

/-- On a lane of ones the weighted values are the weights. -/
theorem wval_one (Q K V : Arr) (h : Fin 8) (base pos : ℕ) (l : Fin 128) (hV : ∀ n, V (ix3 h n l) = 1) :
    ∑ k : Fin 8192, wval Q K V h base pos l k = ((∑ k : Fin 8192, wgt Q K h base pos k : ℝ) : EReal) := by
  rw [coe_sum]
  refine Finset.sum_congr rfl fun k _ => ?_
  unfold wval
  rw [hV, mul_one]

end Cert.Attn

namespace Cert.KernelIdeal.Value

open Idealize.ShloMosaic Idealize.ShloMosaic.TcCoe Idealize.SL.Sem
open Cert.KernelIdeal Cert.KernelIdeal.Gen Cert.Attn

theorem rowMax_ne_top (s : FVec Ideal S512x512 .f32) (r : Fin 512) (hs : ∀ c, s (ix2 r c) ≠ ⊤) : rowMax s r ≠ ⊤ := by
  refine fold_max_ne_top _ _ fun l => ?_
  have g : ∀ c, s (ix2 r c) < ⊤ := fun c => lt_top_iff_ne_top.2 (hs c)
  exact (max_lt (max_lt (max_lt (g _) (g _)) (g _)) (g _)).ne

/-- One head, one row: if the old maximum is one real number on all lanes and the old accumulator is the sum so far
    scaled by it, the same holds after the tile. -/
theorem head_step (s : FVec Ideal S512x512 .f32) (mo ao : Vec Ideal S1x512x128 .f32) (v : Vec Ideal S1x512x128 .bf16) (r : Fin 512)
    (μ : ℝ) (A : Fin 128 → EReal) (hm : ∀ l, mo (ix3 0 r l) = (μ : EReal)) (ha : ∀ l, ao (ix3 0 r l) = (((2 : ℝ) ^ (-μ) : ℝ) : EReal) * A l)
    (hs : ∀ c, s (ix2 r c) ≠ ⊤) :
    ∃ μ' : ℝ, ∀ l, hM s mo (ix3 0 r l) = (μ' : EReal) ∧ hA s mo ao v (ix3 0 r l)
      = (((2 : ℝ) ^ (-μ') : ℝ) : EReal) * (A l + ∑ c : Fin 512, (w2 (s (ix2 r c)) : EReal) * v (ix3 0 c l)) := by
  have h1 : max (μ : EReal) (rowMax s r) ≠ ⊤ := (max_lt (EReal.coe_lt_top μ) (lt_top_iff_ne_top.2 (rowMax_ne_top s r hs))).ne
  have h2 : max (μ : EReal) (rowMax s r) ≠ ⊥ := ((EReal.bot_lt_coe μ).trans_le (le_max_left _ _)).ne'
  refine ⟨(max (μ : EReal) (rowMax s r)).toReal, fun l => ?_⟩
  have e := EReal.coe_toReal h1 h2
  have hM' : hM s mo (ix3 0 r l) = mNew s mo (ix2 r l) := by pointwise [hM]
  have hA' : hA s mo ao v (ix3 0 r l) = aNew s mo ao v (ix2 r l) := by pointwise [hA]
  refine ⟨by rw [hM', mNew_at, hm, e], ?_⟩
  rw [hA', aNew_at s mo ao v r l μ hm, ← e]
  exact step _ _ μ _ (ha l) (fun c => s (ix2 r c)) (fun c => v (ix3 0 c l)) hs

end Cert.KernelIdeal.Value

end
-- ==== Proof.AttnFold.lean ====
/- The running maximum and the accumulator after every grid point, by induction over the points. -/
module

public import proofs.«01_k».proof.Proof.AttnPoint
public import proofs.«01_k».proof.Proof.AttnStep

@[expose] public section

set_option maxRecDepth 16384

noncomputable section

namespace Cert.KernelIdeal.Value

open Idealize.ShloMosaic Idealize.ShloMosaic.TcCoe Idealize.SL.Sem
open Idealize.ShloMosaic.Pipeline
open Cert.KernelIdeal Cert.KernelIdeal.Gen Cert.Attn

variable (m : (ℓ : Loc nD τ sig) → Buf (Elt Ideal) ℓ)

/-- Where each point's blocks lie. -/
theorem idx_val : ∀ t : Fin cfg0.N,
    win0_0.index t (0 : Fin 3) = 0 ∧ win0_0.index t (1 : Fin 3) = t.val / 256 * 16 + t.val / 16 % 16 ∧ win0_0.index t (2 : Fin 3) = 0
    ∧ win0_1.index t (0 : Fin 3) = 0 ∧ win0_1.index t (1 : Fin 3) = t.val / 256 * 16 + min (t.val / 16 % 16) (t.val % 16) ∧ win0_1.index t (2 : Fin 3) = 0
    ∧ win0_2.index t (0 : Fin 3) = 0 ∧ win0_2.index t (1 : Fin 3) = t.val / 256 * 16 + min (t.val / 16 % 16) (t.val % 16) ∧ win0_2.index t (2 : Fin 3) = 0
    ∧ win0_3.index t (0 : Fin 2) = t.val / 16 ∧ win0_3.index t (1 : Fin 2) = 0 :=
  (by decide +kernel : ∀ t : Fin grid0.N, _)

/-- The arrays of the call. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

theorem blkQ (c : Dev nD) (t : Fin cfg0.N) (h : Fin 8) (r : Fin 512) (d : Fin 128) :
    slab (iblk m c 0 t) h (ix3 0 r d) = argQ m c (ix3 h (row (t.val / 256 * 8192 + (t.val / 16 % 16 * 512 + r))) d) := by
  have hN : t.val < 512 := lt_of_lt_of_eq t.isLt (show cfg0.N = 512 from N_0)
  obtain ⟨a0, a1, a2, -⟩ := idx_val t
  have hr : row (t.val / 256 * 8192 + (t.val / 16 % 16 * 512 + r)) = ⟨t.val / 256 * 8192 + (t.val / 16 % 16 * 512 + r), by omega⟩ :=
    Fin.ext (Nat.mod_eq_of_lt (by omega))
  rw [hr]
  unfold slab argQ
  blk_ext [iblk, V, idx_val t]

theorem blkK (c : Dev nD) (t : Fin cfg0.N) (h : Fin 8) (r : Fin 512) (d : Fin 128) :
    slab (iblk m c 1 t) h (ix3 0 r d) = argK m c (ix3 h (row (t.val / 256 * 8192 + (min (t.val / 16 % 16) (t.val % 16) * 512 + r))) d) := by
  have hN : t.val < 512 := lt_of_lt_of_eq t.isLt (show cfg0.N = 512 from N_0)
  have hr : row (t.val / 256 * 8192 + (min (t.val / 16 % 16) (t.val % 16) * 512 + r)) = ⟨t.val / 256 * 8192 + (min (t.val / 16 % 16) (t.val % 16) * 512 + r), by omega⟩ :=
    Fin.ext (Nat.mod_eq_of_lt (by omega))
  rw [hr]
  unfold slab argK
  blk_ext [iblk, V, idx_val t]

theorem blkV (c : Dev nD) (t : Fin cfg0.N) (h : Fin 8) (r : Fin 512) (d : Fin 128) :
    slab (iblk m c 2 t) h (ix3 0 r d) = argV m c (ix3 h (row (t.val / 256 * 8192 + (min (t.val / 16 % 16) (t.val % 16) * 512 + r))) d) := by
  have hN : t.val < 512 := lt_of_lt_of_eq t.isLt (show cfg0.N = 512 from N_0)
  have hr : row (t.val / 256 * 8192 + (min (t.val / 16 % 16) (t.val % 16) * 512 + r)) = ⟨t.val / 256 * 8192 + (min (t.val / 16 % 16) (t.val % 16) * 512 + r), by omega⟩ :=
    Fin.ext (Nat.mod_eq_of_lt (by omega))
  rw [hr]
  unfold slab argV
  blk_ext [iblk, V, idx_val t]

/-- The scores of a tile wholly before the diagonal. -/
theorem tileU (c : Dev nD) (t : Fin cfg0.N) (hk : t.val % 16 < t.val / 16 % 16) (h : Fin 8) (r k : Fin 512) :
    scU (slab (iblk m c 0 t) h) (slab (iblk m c 1 t) h) (ix2 r k)
      = masked (argQ m c) (argK m c) h (t.val / 256 * 8192) (t.val / 16 % 16 * 512 + r) (t.val % 16 * 512 + k) := by
  rw [scU_at]
  unfold masked
  rw [if_pos (by omega)]
  unfold score
  simp only [blkQ, blkK, Nat.min_eq_right hk.le]

/-- The scores of a tile on the diagonal. -/
theorem tileM (c : Dev nD) (t : Fin cfg0.N) (hk : t.val / 16 % 16 = t.val % 16) (h : Fin 8) (r k : Fin 512) :
    scM (slab (iblk m c 0 t) h) (slab (iblk m c 1 t) h) (ix2 r k)
      = masked (argQ m c) (argK m c) h (t.val / 256 * 8192) (t.val / 16 % 16 * 512 + r) (t.val % 16 * 512 + k) := by
  rw [scM_at]
  unfold masked score
  simp only [blkQ, blkK, hk, Nat.min_self]
  by_cases hc : k.val ≤ r.val
  · rw [if_pos hc, if_pos (by omega)]
  · rw [if_neg hc, if_neg (by omega)]

/-- After a point: one real maximum a row, and the accumulator is the sum over the first `n` keys scaled by it. -/
def Inv (c : Dev nD) (b q : ℕ) (M A : Vec Ideal S8x512x128 .f32) (n : ℕ) : Prop :=
  ∀ (h : Fin 8) (r : Fin 512), ∃ μ : ℝ, ∀ l : Fin 128, M (ix3 h r l) = (μ : EReal)
    ∧ A (ix3 h r l) = (((2 : ℝ) ^ (-μ) : ℝ) : EReal) * psum (argQ m c) (argK m c) (argV m c) h (b * 8192) (q * 512 + r) l n

variable {m}

theorem inv_step (c : Dev nD) (hQ : Finite (argQ m c)) (hK : Finite (argK m c)) (t : Fin cfg0.N) (hk : t.val % 16 ≤ t.val / 16 % 16)
    (M A M' A' : Vec Ideal S8x512x128 .f32) (hI : Inv m c (t.val / 256) (t.val / 16 % 16) M A (t.val % 16 * 512))
    (sc : Fin 8 → FVec Ideal S512x512 .f32)
    (hsc : ∀ h r k, sc h (ix2 r k) = masked (argQ m c) (argK m c) h (t.val / 256 * 8192) (t.val / 16 % 16 * 512 + r.val) (t.val % 16 * 512 + k.val))
    (hM' : ∀ h r l, M' (ix3 h r l) = hM (sc h) (slab M h) (ix3 0 r l))
    (hA' : ∀ h r l, A' (ix3 h r l) = hA (sc h) (slab M h) (slab A h) (slab (iblk m c 2 t) h) (ix3 0 r l)) :
    Inv m c (t.val / 256) (t.val / 16 % 16) M' A' ((t.val % 16 + 1) * 512) := by
  intro h r
  obtain ⟨μ, hμ⟩ := hI h r
  obtain ⟨μ', h'⟩ := head_step (sc h) (slab M h) (slab A h) (slab (iblk m c 2 t) h) r μ _ (fun l => (hμ l).1) (fun l => (hμ l).2)
    (fun k => by rw [hsc]; exact masked_ne_top hQ hK _ _ _ _)
  refine ⟨μ', fun l => ⟨(hM' h r l).trans (h' l).1, (hA' h r l).trans ((h' l).2.trans ?_)⟩⟩
  rw [Nat.add_mul, Nat.one_mul, psum_add]
  congr 2
  refine Finset.sum_congr rfl fun k _ => ?_
  rw [hsc, blkV, Nat.min_eq_right hk]
  rfl

/-- The state a reset leaves: the maximum is the printed literal, the accumulator nothing. -/
theorem inv_reset (c : Dev nD) (b q : ℕ) : Inv m c b q (k0_pay1 (F := Ideal)) (k0_pay2 (F := Ideal)) 0 := by
  intro h r
  obtain ⟨μ, hμ⟩ := lit_mask
  refine ⟨μ, fun l => ⟨?_, ?_⟩⟩
  · rw [← hμ]; pointwise [k0_pay1]
  · unfold psum
    rw [Finset.range_zero, Finset.sum_empty, mul_zero]
    pointwise [k0_pay2]

/-- What the points leave. -/
theorem inv (c : Dev nD) (hQ : Finite (argQ m c)) (hK : Finite (argK m c)) : ∀ (n : ℕ) (hn : n < cfg0.N),
    Inv m c (n / 256) (n / 16 % 16) (outsAt0 m c n hn).2.1 (outsAt0 m c n hn).2.2 ((min (n / 16 % 16) (n % 16) + 1) * 512) := by
  intro n
  induction n using Nat.strong_induction_on with
  | _ n ih =>
  intro hn
  have hN : n < 512 := lt_of_lt_of_eq hn (show cfg0.N = 512 from N_0)
  by_cases h0 : n % 16 = 0
  · have h3 : ¬n % 16 = 15 := by omega
    have hz : Inv m c (n / 256) (n / 16 % 16) (k0_pay1 (F := Ideal)) (k0_pay2 (F := Ideal)) (n % 16 * 512) := by
      rw [h0, Nat.zero_mul]; exact inv_reset c _ _
    by_cases h2 : n / 16 % 16 = n % 16
    · have h1 : ¬n % 16 + 1 ≤ n / 16 % 16 := by omega
      rw [Nat.min_eq_right h2.ge]
      exact inv_step c hQ hK ⟨n, hn⟩ h2.ge _ _ _ _ hz _ (tileM m c ⟨n, hn⟩ h2)
        (point_A_M m c ⟨n, hn⟩ h0 h1 h2 h3) (point_A_A m c ⟨n, hn⟩ h0 h1 h2 h3)
    · have h1 : n % 16 + 1 ≤ n / 16 % 16 := by omega
      rw [Nat.min_eq_right (by omega)]
      exact inv_step c hQ hK ⟨n, hn⟩ (Nat.le_of_succ_le h1) _ _ _ _ hz _ (tileU m c ⟨n, hn⟩ h1)
        (point_D_M m c ⟨n, hn⟩ h0 h1 h2 h3) (point_D_A m c ⟨n, hn⟩ h0 h1 h2 h3)
  · have hp := ih (n - 1) (by omega) (Nat.lt_of_le_of_lt (Nat.sub_le _ _) hn)
    rw [show (n - 1) / 256 = n / 256 by omega, show (n - 1) / 16 = n / 16 by omega, show (n - 1) % 16 = n % 16 - 1 by omega] at hp
    by_cases hk : n % 16 ≤ n / 16 % 16
    · rw [show min (n / 16 % 16) (n % 16 - 1) + 1 = n % 16 by omega] at hp
      rw [Nat.min_eq_right hk]
      by_cases h2 : n / 16 % 16 = n % 16
      · have h1 : ¬n % 16 + 1 ≤ n / 16 % 16 := by omega
        by_cases h3 : n % 16 = 15
        · exact inv_step c hQ hK ⟨n, hn⟩ hk _ _ _ _ hp _ (tileM m c ⟨n, hn⟩ h2)
            (point_G_M m c ⟨n, hn⟩ h0 h1 h2 h3) (point_G_A m c ⟨n, hn⟩ h0 h1 h2 h3)
        · exact inv_step c hQ hK ⟨n, hn⟩ hk _ _ _ _ hp _ (tileM m c ⟨n, hn⟩ h2)
            (point_E_M m c ⟨n, hn⟩ h0 h1 h2 h3) (point_E_A m c ⟨n, hn⟩ h0 h1 h2 h3)
      · have h1 : n % 16 + 1 ≤ n / 16 % 16 := by omega
        have h3 : ¬n % 16 = 15 := by omega
        exact inv_step c hQ hK ⟨n, hn⟩ hk _ _ _ _ hp _ (tileU m c ⟨n, hn⟩ h1)
          (point_F_M m c ⟨n, hn⟩ h0 h1 h2 h3) (point_F_A m c ⟨n, hn⟩ h0 h1 h2 h3)
    · have h1 : ¬n % 16 + 1 ≤ n / 16 % 16 := by omega
      have h2 : ¬n / 16 % 16 = n % 16 := by omega
      rw [show min (n / 16 % 16) (n % 16 - 1) = min (n / 16 % 16) (n % 16) by omega] at hp
      by_cases h3 : n % 16 = 15
      · rw [outsAt0_C m c ⟨n, hn⟩ h0 h1 h2 h3]; exact hp
      · rw [outsAt0_B m c ⟨n, hn⟩ h0 h1 h2 h3]; exact hp

end Cert.KernelIdeal.Value

end
-- ==== Proof.AttnOut.lean ====
/- The result array of the attention call. -/
module

public import proofs.«01_k».proof.Proof.AttnFold

@[expose] public section

set_option maxRecDepth 16384

noncomputable section

namespace Cert.KernelIdeal.Value

open Idealize.ShloMosaic Idealize.ShloMosaic.TcCoe Idealize.SL.Sem
open Idealize.ShloMosaic.Pipeline
open Cert.KernelIdeal Cert.KernelIdeal.Gen Cert.Attn

variable {m : (ℓ : Loc nD τ sig) → Buf (Elt Ideal) ℓ}

/-- Lane 64 of every value row is one. -/
def UnitLane (V : Arr) : Prop := ∀ (h : Fin 8) (n : Fin 16384), V (ix3 h n 64) = 1

/-- The last point of a query block stores each accumulator lane over lane 64. -/
theorem out_quot (c : Dev nD) (t : Fin cfg0.N) (h3 : t.val % 16 = 15) (r j : Fin 512) :
    (outsAt0 m c t.val t.isLt).1 (ix2 r j)
      = Ideal.div ((outsAt0 m c t.val t.isLt).2.2 (ix3 ⟨j.val / 64, by omega⟩ r ⟨j.val % 64, by omega⟩)) ((outsAt0 m c t.val t.isLt).2.2 (ix3 ⟨j.val / 64, by omega⟩ r 64)) := by
  have h0 : ¬t.val % 16 = 0 := by omega
  have h1 : ¬t.val % 16 + 1 ≤ t.val / 16 % 16 := by omega
  by_cases h2 : t.val / 16 % 16 = t.val % 16
  · rw [point_G_out m c t h0 h1 h2 h3, quot_at, ← point_G_A m c t h0 h1 h2 h3, ← point_G_A m c t h0 h1 h2 h3]
  · have e : (outsAt0 m c t.val t.isLt).2.2 = (outsAt0 m c (t.val - 1) (Nat.lt_of_le_of_lt (Nat.sub_le _ _) t.isLt)).2.2 := by
      rw [outsAt0_C m c t h0 h1 h2 h3]; rfl
    rw [point_C_out m c t h0 h1 h2 h3, quot_at, e]
    rfl

/-- What the last point of a query block stores is the attention of its rows. -/
theorem out_attn (c : Dev nD) (hQ : Finite (argQ m c)) (hK : Finite (argK m c)) (hV : UnitLane (argV m c)) (t : Fin cfg0.N) (h3 : t.val % 16 = 15)
    (r j : Fin 512) : (outsAt0 m c t.val t.isLt).1 (ix2 r j)
      = attn (argQ m c) (argK m c) (argV m c) ⟨j.val / 64, by omega⟩ (t.val / 256 * 8192) (t.val / 16 % 16 * 512 + r) ⟨j.val % 64, by omega⟩ := by
  obtain ⟨μ, hμ⟩ := inv c hQ hK t.val t.isLt ⟨j.val / 64, by omega⟩ r
  have hp : t.val / 16 % 16 * 512 + r.val < 8192 := by omega
  rw [out_quot c t h3, (hμ _).2, (hμ _).2, Nat.min_eq_left (by omega), psum_all _ _ _ _ _ _ _ _ (by omega) (by omega),
    psum_all _ _ _ _ _ _ _ _ (by omega) (by omega), wval_one _ _ _ _ _ _ _ (hV _)]
  exact final μ _ (denom_pos hQ hK _ _ _ hp) _

/-- THE RESULT after the run. -/
theorem final (c : Dev nD) (hQ : Finite (argQ m c)) (hK : Finite (argK m c)) (hV : UnitLane (argV m c)) :
    (dats m 0 c).arrAt 3 cfg0.N = fun i : S16384x512.Idx =>
      attn (argQ m c) (argK m c) (argV m c) ⟨(i 1).val / 64, by have := (i 1).isLt; change _ < 512 at this; omega⟩ ((i 0).val / 8192 * 8192) ((i 0).val % 8192)
        ⟨(i 1).val % 64, by omega⟩ := by
  refine (dats m 0 c).arrAt_eq_of_covers 3 _ (by decide +kernel) fun t hf y => ?_
  have h3 : t.val % 16 = 15 := (flush0_3 t).mp hf
  have hN : t.val < 512 := lt_of_lt_of_eq t.isLt (show cfg0.N = 512 from N_0)
  blk_simp [idx_val t]
  rw [after0_3]
  idx_vars y
  rw [out_attn c hQ hK hV t h3]
  have e1 : (t.val / 16 * 512 + y0.val) / 8192 * 8192 = t.val / 256 * 8192 := by omega
  have e2 : (t.val / 16 * 512 + y0.val) % 8192 = t.val / 16 % 16 * 512 + y0.val := by omega
  rw [e1, e2]

end Cert.KernelIdeal.Value

end
-- ==== Proof.AttnRef.lean ====
/- The reference attention read at one element. -/
module

public import proofs.«01_k».proof.Proof.Gen.ReferenceIdeal.Run
public import proofs.«01_k».proof.Proof.AttnSpec
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Attn

variable (m : (ℓ : Loc nD τ sig) → Buf (Elt Ideal) ℓ)

/-- The attention formula out of the three host arrays. -/
theorem ref_form (Q K V : Arr) (hQ : Finite Q) (hK : Finite K) (n : Fin 16384) (j : Fin 512)
    (x e v : Fin 8192 → EReal) (M : EReal)
    (hx : ∀ k, x k = if k.val ≤ n.val % 8192 then score Q K ⟨j.val / 64, by omega⟩ n (row (n.val / 8192 * 8192 + k)) * Ideal.log (Ideal.ofBits .f32 0x40000000#32) else ⊥)
    (hM : M = Finset.univ.fold max ⊥ x)
    (he : ∀ k, e k = Ideal.exp (x k - M) * if k.val ≤ n.val % 8192 then 1 else 0)
    (hv : ∀ k, v k = V (ix3 ⟨j.val / 64, by omega⟩ (row (n.val / 8192 * 8192 + k)) ⟨j.val % 64, by omega⟩)) :
    ∑ k, Ideal.div (e k) (max (∑ k, e k) (Ideal.ofBits .f32 0x0DA24260#32)) * v k
      = attn Q K V ⟨j.val / 64, by omega⟩ (n.val / 8192 * 8192) (n.val % 8192) ⟨j.val % 64, by omega⟩ := by
  have hn : row (n.val / 8192 * 8192 + n.val % 8192) = n := Fin.ext (by show _ % _ = _; omega)
  choose sc hsc using fun k : Fin 8192 => score_real hQ hK ⟨j.val / 64, by omega⟩ n (row (n.val / 8192 * 8192 + k))
  have hlog : Ideal.log (Ideal.ofBits .f32 0x40000000#32) = ((Real.log 2 : ℝ) : EReal) := by
    rw [lit_two]
    show (if (2 : ℝ) ≤ 0 then ⊥ else ((Real.log 2 : ℝ) : EReal)) = _
    rw [if_neg (by norm_num)]
  have hmk : ∀ k : Fin 8192, masked Q K ⟨j.val / 64, by omega⟩ (n.val / 8192 * 8192) (n.val % 8192) k
      = if k.val ≤ n.val % 8192 then (sc k : EReal) else ⊥ := by
    intro k; unfold masked; rw [hn, ← hsc]
  rw [softmax_row (fun k : Fin 8192 => k.val ≤ n.val % 8192) ⟨n.val % 8192, Nat.mod_lt _ (by decide)⟩ le_rfl sc x e v M _ _ lit_floor
    (fun k => by rw [hx k, hsc, hlog, ← EReal.coe_mul]) hM (fun k => by rw [he k]; split <;> simp) rfl]
  unfold attn wval wgt
  simp only [hmk, hv]

theorem ref_at (c : Dev nD) (n : Fin 16384) (j : Fin 512)
    (hQ : Finite (m (c.tc.loc main_arg0))) (hK : Finite (m (c.tc.loc main_arg1))) :
    res_out0 m c (ix2 n j) = attn (m (c.tc.loc main_arg0)) (m (c.tc.loc main_arg1)) (m (c.tc.loc main_arg2))
      ⟨j.val / 64, by omega⟩ (n.val / 8192 * 8192) (n.val % 8192) ⟨j.val % 64, by omega⟩ := by
  have hn : (⟨n.val / 8192 * 8192 + n.val % 8192, by omega⟩ : Fin 16384) = n := Fin.ext (by show _ + _ = _; omega)
  have hr : ∀ k : Fin 8192, row (n.val / 8192 * 8192 + k) = ⟨n.val / 8192 * 8192 + k, by omega⟩ :=
    fun k => Fin.ext (Nat.mod_eq_of_lt (by omega))
  have hs : ∀ k : Fin 8192, IntOp.cmpi .sle (BitVec.ofNat 32 k.val) (BitVec.ofNat 32 (n.val % 8192))
      = BitVec.ofBool (decide (k.val ≤ n.val % 8192)) := fun k => sle_word (by omega) (by omega)
  unfold res_out0 res_main_v35
  clean_types
  pointwise
  simp only [hs, hn, select_ofBool, uitofp_ofBool]
  refine ref_form _ _ _ hQ hK n j _ _ _ _ ?_ rfl (fun k => rfl) (fun k => by rw [hr])
  intro k
  rw [hr, ← lit_bot]
  rfl

end Cert.ReferenceIdeal.Value

end
-- ==== Proof.AttnPre.lean ====
/- The precondition of the attention call, read at one element. -/
module

public import proofs.«01_k».proof.Pre_finite_unit_lane
public import proofs.«01_k».proof.Proof.AttnOut
public import Idealize.ShloMosaic.Lib.ReduceAll
public import Idealize.ShloMosaic.Lib.Pointwise

@[expose] public section

noncomputable section

namespace Cert.Pre_finite_unit_lane

open Idealize.ShloMosaic Cert.Attn

instance facts : Facts := by constructor <;> decide

/-- An extended real whose absolute value compares below the word of infinity is a real. -/
theorem real_of_abs_lt (x : Ideal .f32)
    (h : FloatOps.cmpf .olt (FloatOps.absf x) (FloatOps.ofBits .f32 0x7F800000#32) = 1#1) : ∃ r : ℝ, x = (r : EReal) := by
  have htop : (FloatOps.ofBits .f32 0x7F800000#32 : Ideal .f32) = (⊤ : EReal) := by
    show Ideal.ofBits .f32 0x7F800000#32 = ⊤
    simp [Ideal.ofBits, Ideal.ieee]
  rw [htop] at h
  have h' : max (x : EReal) (-x) < ⊤ := by
    by_contra hn
    have e : FloatOps.cmpf .olt (FloatOps.absf x) (⊤ : EReal) = BitVec.ofBool (decide (max (x : EReal) (-x) < ⊤)) := rfl
    rw [e, decide_eq_false hn] at h
    exact absurd h (by decide)
  have h1 : (x : EReal) ≠ ⊤ := fun e => by simp [e] at h'
  have h2 : (x : EReal) ≠ ⊥ := fun e => by simp [e] at h'
  exact ⟨EReal.toReal x, (EReal.coe_toReal h1 h2).symm⟩

/-- An extended real that compares equal to the word of one is one. -/
theorem one_of_eq (x : Ideal .f32)
    (h : FloatOps.cmpf .oeq x (FloatOps.ofBits .f32 0x3F800000#32) = 1#1) : (x : EReal) = 1 := by
  have hone : (FloatOps.ofBits .f32 0x3F800000#32 : Ideal .f32) = (1 : EReal) := by simp
  rw [hone] at h
  by_contra hn
  have e : FloatOps.cmpf .oeq x (1 : EReal) = BitVec.ofBool (decide ((x : EReal) = 1)) := rfl
  rw [e, decide_eq_false hn] at h
  exact absurd h (by decide)

theorem read (Q K V : FVec Ideal S8x16384x128 .bf16) (h : fn (F := Ideal) Q K V = fun _ => 1#1) :
    Finite Q ∧ Finite K ∧ Cert.KernelIdeal.Value.UnitLane V := by
  have e := congrFun h (fun a => a.elim0)
  unfold fn at e
  dsimp only at e
  obtain ⟨e1, e3⟩ := IntOp.andi_eq_one.1 e
  obtain ⟨e1, e2⟩ := IntOp.andi_eq_one.1 e1
  refine ⟨fun a n d => ?_, fun a n d => ?_, fun a n => ?_⟩
  · exact real_of_abs_lt _ (Host.reduce_andi_all _ _ _ _ _ e1 (ix3 a n d))
  · exact real_of_abs_lt _ (Host.reduce_andi_all _ _ _ _ _ e2 (ix3 a n d))
  · have e := one_of_eq _ (Host.reduce_andi_all _ _ _ _ _ e3 (ix3 a n 0))
    refine Eq.trans (congrArg V ?_) e
    funext k
    fin_cases k <;> exact Fin.ext (Nat.zero_add _).symm

end Cert.Pre_finite_unit_lane

end
-- ==== Proof.AttnClaim.lean ====
/- The value claim of the attention call: the kernel's array and the reference's are both `attn` of the arguments. -/
module

public import proofs.«01_k».proof.Defs
public import proofs.«01_k».proof.Proof.AttnOut
public import proofs.«01_k».proof.Proof.AttnRef
public import proofs.«01_k».proof.Proof.AttnPre
public import proofs.«01_k».proof.Proof.Gen.ReferenceIdeal
public import Idealize.ShloMosaic.Lib.Claim

@[expose] public section

set_option maxRecDepth 16384

noncomputable section

namespace Cert.Proof

open Idealize.ShloMosaic Idealize.ShloMosaic.TcCoe Idealize.SL.Sem Cert.Attn

theorem algebraic_attn : Cert.algebraic_KernelIdeal_ReferenceIdeal_pre_finite_unit_lane := by
  pair_intro
  · run_from Cert.KernelIdeal.Gen.run_main m g
  · run_from Cert.ReferenceIdeal.Value.run m' g'
    obtain ⟨hQ, hK, hV⟩ := Cert.Pre_finite_unit_lane.read _ _ _ (hpre c)
    refine Eq.trans (funext fun i => ?_) (Cert.KernelIdeal.Value.final c hQ hK hV).symm
    idx_vars i
    obtain ⟨a0, a1, a2⟩ := hagree c
    have hQ' : Finite (m' (c.tc.loc Cert.ReferenceIdeal.main_arg0)) := by rw [a0]; exact hQ
    have hK' : Finite (m' (c.tc.loc Cert.ReferenceIdeal.main_arg1)) := by rw [a1]; exact hK
    refine (Cert.ReferenceIdeal.Value.ref_at m' c _ _ hQ' hK').trans ?_
    rw [a0, a1, a2]

end Cert.Proof

end
-- ==== Proof.InMath.lean ====
/- The arithmetic of the input projection: a row's scaled values, and a column's sum of products. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.InSpec

open Idealize.ShloMosaic

/-- A row's value scaled by the root mean square of the row, and by the gain. -/
def scaled (x g : Fin 1024 → EReal) (k : Fin 1024) : EReal :=
  x k * Ideal.rsqrt (Ideal.div (∑ j, x j * x j) (Ideal.ofBits .f32 0x44800000#32) + Ideal.ofBits .f32 0x358637BD#32) * g k

end Cert.InSpec

namespace Cert.Kernel3Ideal.In

open Idealize.ShloMosaic Idealize.ShloMosaic.TcCoe Idealize.SL.Sem
open Cert.Kernel3Ideal Cert.Kernel3Ideal.Gen Cert.InSpec

/-- The product of a block of rows, entry by entry. -/
theorem pay6_at (x0 : Vec Ideal S512x1024 .f32) (x1 : Vec Ideal S1x1024 .f32) (x2 : Vec Ideal S1024x1792 .bf16) (r : Fin 512) (n : Fin 1792) :
    k0_pay6 x0 x1 x2 (ix2 r n) = ∑ k, scaled (fun k => x0 (ix2 r k)) (fun k => x1 (ix2 0 k)) k * x2 (ix2 k n) := by
  pointwise [k0_pay6]
  rfl

variable (m : (ℓ : Loc nD τ sig) → Buf (Elt Ideal) ℓ)

/-- The padded weights as the host line lays them out. -/
def laid (W : FVec Ideal S1024x1720 .f32) : FVec Ideal S1024x1792 .bf16 :=
  truncf .bf16 (concatenate S1024x1792 1 [⟨S1024x384, (extractStridedSlice S1024x384 ![0, 0] W slices_S1024x1720_S1024x384_0_0)⟩, ⟨S1024x512, (extractStridedSlice S1024x512 ![0, 416] W slices_S1024x1720_S1024x512_0_416)⟩, ⟨S1024x768, (extractStridedSlice S1024x768 ![0, 928] W slices_S1024x1720_S1024x768_0_928)⟩, ⟨S1024x32, (extractStridedSlice S1024x32 ![0, 384] W slices_S1024x1720_S1024x32_0_384)⟩, ⟨S1024x24, (extractStridedSlice S1024x24 ![0, 1696] W slices_S1024x1720_S1024x24_0_1696)⟩, ⟨S1024x72, (broadcastInDim S1024x72 ![] bcast_S_S1024x72 (constant S_ .f32 0x00000000#32))⟩] concatenates_S1024x384_S1024x512_S1024x768_S1024x32_S1024x24_S1024x72_S1024x1792_d1) bitsLt_bf16_f32

/-- What the call finds as its weights. -/
theorem w_eq (c : Dev nD) : V m c main_v7 = laid (m (c.tc.loc main_arg2)) := by
  show StableHlo.after hostOps0 _ _ = _
  simp only [StableHlo.after_cons, StableHlo.after_nil]
  after_results_steps
  rfl

/-! ## The padded weights, a column of each part -/

theorem laid_0 (W : FVec Ideal S1024x1720 .f32) (k : Fin 1024) (n : Fin 384) :
    laid W (ix2 k ⟨n, by omega⟩) = W (ix2 k ⟨n, by omega⟩) := by
  pointwise [laid]

theorem laid_1 (W : FVec Ideal S1024x1720 .f32) (k : Fin 1024) (n : Fin 512) :
    laid W (ix2 k ⟨384 + n, by omega⟩) = W (ix2 k ⟨416 + n, by omega⟩) := by
  pointwise [laid]

theorem laid_2 (W : FVec Ideal S1024x1720 .f32) (k : Fin 1024) (n : Fin 768) :
    laid W (ix2 k ⟨896 + n, by omega⟩) = W (ix2 k ⟨928 + n, by omega⟩) := by
  pointwise [laid]
  split_ifs <;> first | (exfalso; omega) | rfl | exact congrArg W (congrArg (ix2 k) (Fin.ext (by dsimp only; omega)))

theorem laid_3 (W : FVec Ideal S1024x1720 .f32) (k : Fin 1024) (n : Fin 32) :
    laid W (ix2 k ⟨1664 + n, by omega⟩) = W (ix2 k ⟨384 + n, by omega⟩) := by
  pointwise [laid]
  split_ifs <;> first | (exfalso; omega) | rfl | exact congrArg W (congrArg (ix2 k) (Fin.ext (by dsimp only; omega)))

theorem laid_4 (W : FVec Ideal S1024x1720 .f32) (k : Fin 1024) (n : Fin 24) :
    laid W (ix2 k ⟨1696 + n, by omega⟩) = W (ix2 k ⟨1696 + n, by omega⟩) := by
  pointwise [laid]
  split_ifs <;> first | (exfalso; omega) | rfl | exact congrArg W (congrArg (ix2 k) (Fin.ext (by dsimp only; omega)))

theorem laid_5 (W : FVec Ideal S1024x1720 .f32) (k : Fin 1024) (n : Fin 72) :
    laid W (ix2 k ⟨1720 + n, by omega⟩) = 0 := by
  pointwise [laid]
  split_ifs <;> first | (exfalso; omega) | rfl | exact congrArg W (congrArg (ix2 k) (Fin.ext (by dsimp only; omega)))

/-! ## The parts of the product -/

variable (x0 : Vec Ideal S512x1024 .f32) (x1 : Vec Ideal S1x1024 .f32) (x2 : Vec Ideal S1024x1792 .bf16)

theorem pay7_at (r : Fin 512) (n : Fin 384) : k0_pay7 x0 x1 x2 (ix2 r n) = k0_pay6 x0 x1 x2 (ix2 r ⟨n, by omega⟩) := by
  pointwise [k0_pay7]

theorem pay8_at (r : Fin 512) (n : Fin 512) : k0_pay8 x0 x1 x2 (ix2 r n) = k0_pay6 x0 x1 x2 (ix2 r ⟨384 + n, by omega⟩) := by
  pointwise [k0_pay8]

theorem pay5_at (v : FVec Ideal S512x1792 .f32) (r : Fin 512) (n : Fin 128) : k0_pay5 v (ix2 r n) = v (ix2 r ⟨1664 + n, by omega⟩) := by
  pointwise [k0_pay5]

/-- The gain, as the call finds it. -/
theorem g_at (c : Dev nD) (k : Fin 1024) : (V m c main_v8 : S1x1024.Idx → EReal) (ix2 0 k) = (m (c.tc.loc main_arg1) : S1024.Idx → EReal) (ix1 k) := by
  entry_read
  pointwise

end Cert.Kernel3Ideal.In

namespace Cert.Reference3Ideal.In

open Idealize.ShloMosaic Idealize.ShloMosaic.TcCoe Idealize.SL.Sem
open Cert.Reference3Ideal Cert.Reference3Ideal.Gen Cert.InSpec

/-- The reference's product. -/
def prod (X : FVec Ideal S16384x1024 .f32) (G : FVec Ideal S1024 .f32) (W : FVec Ideal S1024x1720 .f32) : FVec Ideal S16384x1720 .f32 :=
  Host.dotGeneral dot_S16384x1024_S1024x1720_S16384x1720_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))) W

/-- The product, entry by entry. -/
theorem prod_at (X : FVec Ideal S16384x1024 .f32) (G : FVec Ideal S1024 .f32) (W : FVec Ideal S1024x1720 .f32) (r : Fin 16384) (n : Fin 1720) :
    prod X G W (ix2 r n) = ∑ k, scaled (fun k => X (ix2 r k)) (fun k => G (ix1 k)) k * W (ix2 k n) := by
  pointwise [prod]
  rfl

/-- The four results of the reference. -/
def res0 (X : FVec Ideal S16384x1024 .f32) (G : FVec Ideal S1024 .f32) (W : FVec Ideal S1024x1720 .f32) : FVec Ideal S16384x384 .f32 :=
  extractStridedSlice S16384x384 ![0, 0] (prod X G W) slices_S16384x1720_S16384x384_0_0

def res1 (X : FVec Ideal S16384x1024 .f32) (G : FVec Ideal S1024 .f32) (W : FVec Ideal S1024x1720 .f32) : FVec Ideal S16384x512 .f32 :=
  extractStridedSlice S16384x512 ![0, 416] (prod X G W) slices_S16384x1720_S16384x512_0_416

def res2 (X : FVec Ideal S16384x1024 .f32) (G : FVec Ideal S1024 .f32) (W : FVec Ideal S1024x1720 .f32) : FVec Ideal S6x16384x128 .f32 :=
  transpose S6x16384x128 [1, 0, 2] (shapeCast _ (extractStridedSlice S16384x768 ![0, 928] (prod X G W) slices_S16384x1720_S16384x768_0_928) shapeCasts_S16384x768_S16384x6x128) transposes_S16384x6x128_S6x16384x128_1_0_2

def res3 (X : FVec Ideal S16384x1024 .f32) (G : FVec Ideal S1024 .f32) (W : FVec Ideal S1024x1720 .f32) : FVec Ideal S16384x128 .f32 :=
  concatenate S16384x128 1 [⟨S16384x32, extractStridedSlice S16384x32 ![0, 384] (prod X G W) slices_S16384x1720_S16384x32_0_384⟩, ⟨S16384x24, extractStridedSlice S16384x24 ![0, 1696] (prod X G W) slices_S16384x1720_S16384x24_0_1696⟩, ⟨S16384x72, broadcastInDim S16384x72 ![] bcast_S_S16384x72 (constant S_ .f32 0x00000000#32)⟩] concatenates_S16384x32_S16384x24_S16384x72_S16384x128_d1

variable (X : FVec Ideal S16384x1024 .f32) (G : FVec Ideal S1024 .f32) (W : FVec Ideal S1024x1720 .f32)

theorem res0_at (r : Fin 16384) (n : Fin 384) : res0 X G W (ix2 r n) = prod X G W (ix2 r ⟨n, by omega⟩) := by
  pointwise [res0]

theorem res1_at (r : Fin 16384) (n : Fin 512) : res1 X G W (ix2 r n) = prod X G W (ix2 r ⟨416 + n, by omega⟩) := by
  pointwise [res1]

theorem res2_at (h : Fin 6) (r : Fin 16384) (d : Fin 128) : res2 X G W (ix3 h r d) = prod X G W (ix2 r ⟨928 + (h * 128 + d), by omega⟩) := by
  pointwise [res2]

theorem res3_0 (r : Fin 16384) (n : Fin 32) : res3 X G W (ix2 r ⟨n, by omega⟩) = prod X G W (ix2 r ⟨384 + n, by omega⟩) := by
  pointwise [res3]

theorem res3_1 (r : Fin 16384) (n : Fin 24) : res3 X G W (ix2 r ⟨32 + n, by omega⟩) = prod X G W (ix2 r ⟨1696 + n, by omega⟩) := by
  pointwise [res3]

theorem res3_2 (r : Fin 16384) (n : Fin 72) : res3 X G W (ix2 r ⟨56 + n, by omega⟩) = 0 := by
  pointwise [res3]
  split_ifs <;> first | (exfalso; omega) | rfl

end Cert.Reference3Ideal.In

end
-- ==== Proof.InVal.lean ====
/- The input projection's results: what the call writes back is the reference's product, part by part. -/
module

public import proofs.«01_k».proof.Proof.InMath

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.InSpec

variable (m : (ℓ : Loc nD τ sig) → Buf (Elt Ideal) ℓ)

/-- The blocks' indices at each point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, t.val, 0] ∧ win0_6.index t = ![t.val, 0] :=
  (by decide +kernel : ∀ t : Fin grid0.N, _)

abbrev xs (c : Dev nD) : FVec Ideal S16384x1024 .f32 := m (c.tc.loc main_arg0)
abbrev gs (c : Dev nD) : FVec Ideal S1024 .f32 := m (c.tc.loc main_arg1)
abbrev ws (c : Dev nD) : FVec Ideal S1024x1720 .f32 := m (c.tc.loc main_arg2)

theorem blk0 (c : Dev nD) (t : Fin cfg0.N) (r : Fin 512) (k : Fin 1024) (R : Fin 16384) (hR : (R : ℕ) = t.val * 512 + r) :
    iblk m c 0 t (ix2 r k) = xs m c (ix2 R k) := by
  blk_ext [iblk, V, idx t]

theorem blk1 (c : Dev nD) (t : Fin cfg0.N) (k : Fin 1024) : iblk m c 1 t (ix2 0 k) = gs m c (ix1 k) := by
  refine Eq.trans ?_ (g_at m c k)
  blk_ext [iblk, idx t]

theorem blk2 (c : Dev nD) (t : Fin cfg0.N) (k : Fin 1024) (n : Fin 1792) : iblk m c 2 t (ix2 k n) = laid (ws m c) (ix2 k n) := by
  refine Eq.trans ?_ (congrFun (w_eq m c) _)
  blk_ext [iblk, idx t]

/-- A block's product, entry by entry, over the layer's arrays. -/
theorem pay6_blk (c : Dev nD) (t : Fin cfg0.N) (r : Fin 512) (n : Fin 1792) (R : Fin 16384) (hR : (R : ℕ) = t.val * 512 + r) :
    k0_pay6 (F := Ideal) (iblk m c 0 t) (iblk m c 1 t) (iblk m c 2 t) (ix2 r n)
      = ∑ k, scaled (fun k => xs m c (ix2 R k)) (fun k => gs m c (ix1 k)) k * laid (ws m c) (ix2 k n) := by
  refine (pay6_at _ _ _ r n).trans ?_
  have h0 : (fun k => iblk m c 0 t (ix2 r k)) = fun k => xs m c (ix2 R k) := funext fun k => blk0 m c t r k R hR
  have h1 : (fun k => iblk m c 1 t (ix2 0 k)) = fun k => gs m c (ix1 k) := funext fun k => blk1 m c t k
  refine Finset.sum_congr rfl fun k _ => Ideal.mul_congr (congrFun (congrArg₂ scaled h0 h1) k) (blk2 m c t k n)

/-- Where the padded weights' column is a column of the weights, the entry is the reference's. -/
theorem pay6_prod (c : Dev nD) (t : Fin cfg0.N) (r : Fin 512) (n : Fin 1792) (R : Fin 16384) (N : Fin 1720) (hR : (R : ℕ) = t.val * 512 + r)
    (hN : ∀ k, laid (ws m c) (ix2 k n) = ws m c (ix2 k N)) :
    k0_pay6 (F := Ideal) (iblk m c 0 t) (iblk m c 1 t) (iblk m c 2 t) (ix2 r n) = Cert.Reference3Ideal.In.prod (xs m c) (gs m c) (ws m c) (ix2 R N) := by
  rw [pay6_blk m c t r n R hR]
  refine Eq.trans ?_ (Cert.Reference3Ideal.In.prod_at _ _ _ R N).symm
  exact Finset.sum_congr rfl fun k _ => Ideal.mul_congr rfl (hN k)

/-- Where it is padding, the entry is zero. -/
theorem pay6_zero (c : Dev nD) (t : Fin cfg0.N) (r : Fin 512) (n : Fin 1792) (hr : t.val * 512 + r < 16384)
    (hN : ∀ k, laid (ws m c) (ix2 k n) = 0) :
    k0_pay6 (F := Ideal) (iblk m c 0 t) (iblk m c 1 t) (iblk m c 2 t) (ix2 r n) = (0 : EReal) := by
  rw [pay6_blk m c t r n ⟨t.val * 512 + r, hr⟩ rfl]
  exact Finset.sum_eq_zero fun k _ => by rw [hN k, mul_zero]

theorem point3 (c : Dev nD) (t : Fin cfg0.N) (y : S512x384.Idx) (j : S16384x384.Idx) (h0 : (j 0 : ℕ) = t.val * 512 + (y 0 : ℕ)) (h1 : (j 1 : ℕ) = (y 1 : ℕ)) :
    k0_pay7 (F := Ideal) (iblk m c 0 t) (iblk m c 1 t) (iblk m c 2 t) y = Cert.Reference3Ideal.In.res0 (xs m c) (gs m c) (ws m c) j := by
  idx_vars y
  idx_vars j
  refine (pay7_at _ _ _ y0 y1).trans (Eq.trans ?_ (Cert.Reference3Ideal.In.res0_at _ _ _ j0 j1).symm)
  refine pay6_prod m c t y0 _ j0 _ h0 fun k => ?_
  obtain rfl : j1 = y1 := Fin.ext h1
  exact laid_0 _ k _

theorem final3 (c : Dev nD) : (dats m 0 c).arrAt 3 (cfgs 0).N = Cert.Reference3Ideal.In.res0 (xs m c) (gs m c) (ws m c) := by
  refine (dats m 0 c).arrAt_eq_of_covers 3 _ (by decide +kernel) fun t _ y => ?_
  blk_simp
  rw [after0_3]
  frame_out
  refine point3 m c t y _ ?_ ?_ <;> blk_simp [idx t]

theorem point4 (c : Dev nD) (t : Fin cfg0.N) (y : S512x512.Idx) (j : S16384x512.Idx) (h0 : (j 0 : ℕ) = t.val * 512 + (y 0 : ℕ)) (h1 : (j 1 : ℕ) = (y 1 : ℕ)) :
    k0_pay8 (F := Ideal) (iblk m c 0 t) (iblk m c 1 t) (iblk m c 2 t) y = Cert.Reference3Ideal.In.res1 (xs m c) (gs m c) (ws m c) j := by
  idx_vars y
  idx_vars j
  refine (pay8_at _ _ _ y0 y1).trans (Eq.trans ?_ (Cert.Reference3Ideal.In.res1_at _ _ _ j0 j1).symm)
  refine pay6_prod m c t y0 _ j0 _ h0 fun k => ?_
  obtain rfl : j1 = y1 := Fin.ext h1
  exact laid_1 _ k _

theorem final4 (c : Dev nD) : (dats m 0 c).arrAt 4 (cfgs 0).N = Cert.Reference3Ideal.In.res1 (xs m c) (gs m c) (ws m c) := by
  refine (dats m 0 c).arrAt_eq_of_covers 4 _ (by decide +kernel) fun t _ y => ?_
  blk_simp
  rw [after0_4]
  frame_out
  refine point4 m c t y _ ?_ ?_ <;> blk_simp [idx t]

/-- The last window's entry is the product's where it holds one of its columns, and zero past them. -/
theorem point6 (c : Dev nD) (t : Fin cfg0.N) (y : S512x128.Idx) (i : S512x1792.Idx) (j : S16384x128.Idx)
    (hi0 : (i 0 : ℕ) = (y 0 : ℕ)) (hi1 : (i 1 : ℕ) = 1664 + (y 1 : ℕ)) (h0 : (j 0 : ℕ) = t.val * 512 + (y 0 : ℕ)) (h1 : (j 1 : ℕ) = (y 1 : ℕ)) :
    k0_pay6 (F := Ideal) (iblk m c 0 t) (iblk m c 1 t) (iblk m c 2 t) i = Cert.Reference3Ideal.In.res3 (xs m c) (gs m c) (ws m c) j := by
  idx_vars y
  idx_vars j
  idx_vars i
  change (i0 : ℕ) = (y0 : ℕ) at hi0
  change (i1 : ℕ) = 1664 + (y1 : ℕ) at hi1
  change (j0 : ℕ) = t.val * 512 + (y0 : ℕ) at h0
  change (j1 : ℕ) = (y1 : ℕ) at h1
  rw [← hi0] at h0
  rw [← h1] at hi1
  have hb : (j1 : ℕ) < 128 := j1.isLt
  rcases Nat.lt_or_ge j1 32 with h | h
  · refine Eq.trans ?_ (Cert.Reference3Ideal.In.res3_0 _ _ _ j0 ⟨j1, h⟩).symm
    exact pay6_prod m c t i0 i1 j0 _ h0 fun k => Eq.trans (congrArg _ (congrArg (ix2 k) (Fin.ext hi1))) (laid_3 _ k ⟨j1, h⟩)
  rcases Nat.lt_or_ge j1 56 with h' | h'
  · have hn : (j1 : ℕ) - 32 < 24 := by omega
    refine Eq.trans ?_ (((congrArg _ (congrArg (ix2 j0) (Fin.ext ?_))).trans (Cert.Reference3Ideal.In.res3_1 _ _ _ j0 ⟨j1 - 32, hn⟩)).symm)
    · refine pay6_prod m c t i0 i1 j0 _ h0 fun k => Eq.trans (congrArg _ (congrArg (ix2 k) (Fin.ext ?_))) (laid_4 _ k ⟨j1 - 32, hn⟩)
      dsimp only; omega
    · dsimp only; omega
  · have hn : (j1 : ℕ) - 56 < 72 := by omega
    refine Eq.trans ?_ (((congrArg _ (congrArg (ix2 j0) (Fin.ext ?_))).trans (Cert.Reference3Ideal.In.res3_2 _ _ _ j0 ⟨j1 - 56, hn⟩)).symm)
    · refine pay6_zero m c t i0 i1 (h0 ▸ j0.isLt) fun k => Eq.trans (congrArg _ (congrArg (ix2 k) (Fin.ext ?_))) (laid_5 _ k ⟨j1 - 56, hn⟩)
      dsimp only; omega
    · dsimp only; omega

theorem out6 (c : Dev nD) (t : Fin cfg0.N) (y : S512x128.Idx) (j : S16384x128.Idx)
    (h0 : (j 0 : ℕ) = t.val * 512 + (y 0 : ℕ)) (h1 : (j 1 : ℕ) = (y 1 : ℕ)) :
    out0_6 (F := Ideal) (iblk m c 0 t) (iblk m c 1 t) (iblk m c 2 t) y = Cert.Reference3Ideal.In.res3 (xs m c) (gs m c) (ws m c) j := by
  obtain_idx i : S512x1792 := [(y 0 : ℕ), 1664 + (y 1 : ℕ)] with hi
  refine Eq.trans (b := k0_pay6 (F := Ideal) (iblk m c 0 t) (iblk m c 1 t) (iblk m c 2 t) i) ?_ (point6 m c t y i j hi0 hi1 h0 h1)
  clear h0 h1
  canon_tiles x h
  all_goals (open_payloads; pointwise; blk_ext)

theorem final6 (c : Dev nD) : (dats m 0 c).arrAt 6 (cfgs 0).N = Cert.Reference3Ideal.In.res3 (xs m c) (gs m c) (ws m c) := by
  refine (dats m 0 c).arrAt_eq_of_covers 6 _ (by decide +kernel) fun t _ y => ?_
  blk_simp
  rw [after0_6]
  refine out6 m c t y _ ?_ ?_ <;> blk_simp [idx t]

/-- The fifth window's entry is the product's, at its head and lane. -/
theorem point5 (c : Dev nD) (t : Fin cfg0.N) (y : S6x512x128.Idx) (i : S512x1792.Idx) (j : S6x16384x128.Idx)
    (hi0 : (i 0 : ℕ) = (y 1 : ℕ)) (hi1 : (i 1 : ℕ) = 896 + ((y 0 : ℕ) * 128 + (y 2 : ℕ)))
    (h0 : (j 0 : ℕ) = (y 0 : ℕ)) (h1 : (j 1 : ℕ) = t.val * 512 + (y 1 : ℕ)) (h2 : (j 2 : ℕ) = (y 2 : ℕ)) :
    k0_pay6 (F := Ideal) (iblk m c 0 t) (iblk m c 1 t) (iblk m c 2 t) i = Cert.Reference3Ideal.In.res2 (xs m c) (gs m c) (ws m c) j := by
  idx_vars y
  idx_vars j
  idx_vars i
  refine Eq.trans ?_ (Cert.Reference3Ideal.In.res2_at _ _ _ j0 j1 j2).symm
  obtain rfl : i0 = y1 := Fin.ext hi0
  obtain rfl : j0 = y0 := Fin.ext h0
  obtain rfl : j2 = y2 := Fin.ext h2
  have b0 : (j0 : ℕ) < 6 := j0.isLt
  have b2 : (j2 : ℕ) < 128 := j2.isLt
  refine pay6_prod m c t i0 _ j1 _ h1 fun k => Eq.trans (congrArg _ (congrArg (ix2 k) (Fin.ext hi1))) (laid_2 _ k ⟨j0 * 128 + j2, by omega⟩)

theorem out5 (c : Dev nD) (t : Fin cfg0.N) (y : S6x512x128.Idx) (j : S6x16384x128.Idx)
    (h0 : (j 0 : ℕ) = (y 0 : ℕ)) (h1 : (j 1 : ℕ) = t.val * 512 + (y 1 : ℕ)) (h2 : (j 2 : ℕ) = (y 2 : ℕ)) :
    out0_5 (F := Ideal) (iblk m c 0 t) (iblk m c 1 t) (iblk m c 2 t) y = Cert.Reference3Ideal.In.res2 (xs m c) (gs m c) (ws m c) j := by
  obtain_idx i : S512x1792 := [(y 1 : ℕ), 896 + ((y 0 : ℕ) * 128 + (y 2 : ℕ))] with hi
  refine Eq.trans (b := k0_pay6 (F := Ideal) (iblk m c 0 t) (iblk m c 1 t) (iblk m c 2 t) i) ?_ (point5 m c t y i j hi0 hi1 h0 h1 h2)
  clear h0 h1 h2
  canon_tiles x h
  all_goals (open_payloads; pointwise; blk_ext)

theorem final5 (c : Dev nD) : (dats m 0 c).arrAt 5 (cfgs 0).N = Cert.Reference3Ideal.In.res2 (xs m c) (gs m c) (ws m c) := by
  refine (dats m 0 c).arrAt_eq_of_covers 5 _ (by decide +kernel) fun t _ y => ?_
  blk_simp
  rw [after0_5]
  refine out5 m c t y _ ?_ ?_ ?_ <;> blk_simp [idx t]

end Cert.Kernel3Ideal.In

end
-- ==== Proof.InClaim.lean ====
/- The input projection call: its value claim, and its reference's frame. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.InVal

@[expose] public section

set_option maxRecDepth 16384

noncomputable section

namespace Cert.Proof

open Idealize.ShloMosaic Idealize.SL.Sem

/-- THE VALUE CLAIM of the input projection call. -/
theorem algebraic_in_proj : Cert.algebraic_Kernel3Ideal_Reference3Ideal := by
  intro m g m' g' _ hagree
  refine ⟨fun c => Cert.Reference3Ideal.In.res0 (Cert.Kernel3Ideal.In.xs m c) (Cert.Kernel3Ideal.In.gs m c) (Cert.Kernel3Ideal.In.ws m c),
    fun c => Cert.Reference3Ideal.In.res1 (Cert.Kernel3Ideal.In.xs m c) (Cert.Kernel3Ideal.In.gs m c) (Cert.Kernel3Ideal.In.ws m c),
    fun c => Cert.Reference3Ideal.In.res2 (Cert.Kernel3Ideal.In.xs m c) (Cert.Kernel3Ideal.In.gs m c) (Cert.Kernel3Ideal.In.ws m c),
    fun c => Cert.Reference3Ideal.In.res3 (Cert.Kernel3Ideal.In.xs m c) (Cert.Kernel3Ideal.In.gs m c) (Cert.Kernel3Ideal.In.ws m c), ?_, ?_⟩
  · refine (θ_run Cert.Kernel3Ideal.defs _ _).mono (fun r h c => ?_) (Cert.Kernel3Ideal.Value.run_blocks m g)
    obtain ⟨h3, h4, h5, h6, ha⟩ := h c
    exact ⟨h3.trans (Cert.Kernel3Ideal.In.final3 m c), h4.trans (Cert.Kernel3Ideal.In.final4 m c), h5.trans (Cert.Kernel3Ideal.In.final5 m c),
      h6.trans (Cert.Kernel3Ideal.In.final6 m c), ha⟩
  · refine (θ_run Cert.Reference3Ideal.defs _ _).mono (fun r h c => ?_) (Cert.Reference3Ideal.Value.run m' g')
    obtain ⟨h0, h1, h2, h3, ha⟩ := h c
    obtain ⟨a0, a1, a2⟩ := hagree c
    rw [a0, a1, a2] at h0 h1 h2 h3
    exact ⟨h0, h1, h2, h3, ha⟩

/-- The reference's frame. -/
theorem frame_reference_in_proj : Cert.quiescent_Reference3Ideal := by
  intro m g _
  exact (θ_run Cert.Reference3Ideal.defs _ _).mono (fun r h => ⟨fun c => (h c).2.2.2.2,
      Idealize.ShloMosaic.sem_eq_zero_of_no_sems (by decide) r.2⟩)
    (Cert.Reference3Ideal.Value.run m g)

end Cert.Proof

end
-- ==== Proof.MoeRange.lean ====
/- The precondition of the expert call, read at one word. -/
module

public import proofs.«01_k».proof.Pre_expert_in_range
public import Idealize.ShloMosaic.Lib.ReduceAll
public import Idealize.ShloMosaic.Lib.Pointwise
public import Idealize.ShloMosaic.Lib.WordCmp

@[expose] public section

noncomputable section

namespace Cert.Pre_expert_in_range

open Idealize.ShloMosaic

instance facts : Facts := by constructor <;> decide

theorem word_lt (w : BitVec 32) (h0 : IntOp.cmpi .sge w 0#32 = 1#1) (h1 : IntOp.cmpi .slt w 32#32 = 1#1) : w.toNat < 32 := by
  have e0 : (0#32).sle w = true := by
    by_contra hn
    rw [show IntOp.cmpi .sge w 0#32 = BitVec.ofBool ((0#32).sle w) from rfl, Bool.eq_false_iff.mpr hn] at h0
    exact absurd h0 (by decide)
  have e1 : w.slt 32#32 = true := by
    by_contra hn
    rw [show IntOp.cmpi .slt w 32#32 = BitVec.ofBool (w.slt 32#32) from rfl, Bool.eq_false_iff.mpr hn] at h1
    exact absurd h1 (by decide)
  simp only [BitVec.sle, BitVec.slt, decide_eq_true_eq, BitVec.toInt_eq_toNat_cond] at e0 e1
  have := w.isLt
  simp at e0 e1
  split at e0 <;> split at e1 <;> omega

/-- Under the precondition every word is below the number of experts. -/
theorem read {F : FTy → Type} [FloatOps F] {a0 : IVec S160 32} {a1 : IVec S1 32} {a2 : FVec F S655360x128 .f32} {a3 : FVec F S32x1024x2048 .f32} {a4 : FVec F S32x2048 .f32} {a5 : FVec F S32x1024x1024 .f32} {a6 : FVec F S32x1024 .f32}
    (h : fn a0 a1 a2 a3 a4 a5 a6 = fun _ => 1#1) (j : S160.Idx) : (a0 j).toNat < 32 := by
  have e := congrFun h j
  unfold fn at e
  dsimp only at e
  obtain ⟨e1, e2⟩ := IntOp.andi_eq_one.1 e
  exact word_lt _ e1 e2

end Cert.Pre_expert_in_range

end
-- ==== Proof.BMoePre.lean ====
/- Tables of experts in range are tables the pipeline of `Kernel2` admits. -/
module

public import proofs.«01_k».proof.Proof.BMoeFrame
public import proofs.«01_k».proof.Proof.MoeRange

@[expose] public section

noncomputable section

namespace Cert.Kernel2.Moe

open Idealize.ShloMosaic Idealize.ShloMosaic.TcCoe Cert.Kernel2 Cert.Kernel2.Gen

variable {F : FTy → Type} [FloatOps F] (m : (ℓ : Loc nD τ sig) → Buf (Elt F) ℓ)

/-- The first table is the first argument. -/
theorem tbl_zero : tbl m 0 = m (((0 : Dev nD).tc : Thread nD τ).loc main_arg0) := by
  unfold tbl; exact V_main_arg0 m 0

/-- The second table is the second argument. -/
theorem tbl_one : tbl m 1 = m (((0 : Dev nD).tc : Thread nD τ).loc main_arg1) := by
  unfold tbl; exact V_main_arg1 m 0

theorem ok_of (h : ∀ j : S160.Idx, ((m (((0 : Dev nD).tc : Thread nD τ).loc main_arg0) : S160.Idx → BitVec 32) j).toNat < 32) : Ok m := by
  have h' : ∀ j : S160.Idx, ((tbl m 0 : S160.Idx → BitVec 32) j).toNat < 32 := by rw [tbl_zero]; exact h
  unfold Ok
  generalize tbl m = pf at h'
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  all_goals
    match a with
    | ⟨0, _⟩ => exact (Nat.mul_one _).trans_le (h' _)
    | ⟨1, _⟩ => exact (Nat.one_mul _).le
    | ⟨2, _⟩ => exact (Nat.one_mul _).le

theorem ok_pre (m : (ℓ : Loc nD τ sig) → Buf (Elt Bits) ℓ) (h : ∀ c : Dev nD,
    Cert.Pre_expert_in_range.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Ok m :=
  ok_of m (fun j => Cert.Pre_expert_in_range.read (h 0) j)

end Cert.Kernel2.Moe

end
-- ==== Proof.MoeRuns.lean ====
/- What the runs of the expert feed-forward body share: the arrays as the pipelined region finds them, the tables, the
   windows' blocks, the conditions of the body's branches over the tables' words, and the memrefs it is called with. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the launch is proved over. -/
abbrev RA (F : FTy → Type) [FloatOps F] := MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
@[irreducible] def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; unfold tbl; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (RA F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (RA F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-- Window 7 (result 0 (%20)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

/-! ## The body's branch conditions, over the tables' words -/

/-- The expert the body reads for grid point `i`, off the first table's contents. -/
abbrev wd1 (c : Dev nD) (xt0 : TbBuf0 (F := F) c tbM0_0) (i : grid0.Coords) : BitVec 32 :=
  xt0 ((Rect.unit (s := S160) (k0_off1 i) S1.size (k0_off1_inb i)).emb (Shape.Idx.first (numel1_S1.symm ▸ Nat.one_pos)))
/-- The expert it reads for the point before (for point 0: for point 0 itself). -/
abbrev wd2 (c : Dev nD) (xt0 : TbBuf0 (F := F) c tbM0_0) (i : grid0.Coords) : BitVec 32 :=
  xt0 ((Rect.unit (s := S160) (k0_off2 i) S1.size (k0_off2_inb i)).emb (Shape.Idx.first (numel1_S1.symm ▸ Nat.one_pos)))
/-- The number of used blocks it reads off the second table's contents. -/
abbrev wdn (c : Dev nD) (xt1 : TbBuf0 (F := F) c tbM0_1) : BitVec 32 :=
  xt1 ((Rect.unit (s := S1) ![0] S1.size inb_S1_S1_0).emb (Shape.Idx.first (numel1_S1.symm ▸ Nat.one_pos)))

/-- The condition of the first branch, of the three words it reads: a used block, the first of all or of another
    expert than the block before. -/
abbrev cnd0 (i : grid0.Coords) (v2 v6 v9 : BitVec 32) : Prop :=
  Scalar.cmpi .ne (Scalar.extui (Scalar.andi (Scalar.ori (Scalar.cmpi .eq (BitVec.ofNat 32 (i 0).val) 0#32) (Scalar.cmpi .ne v2 v6)) (Scalar.cmpi .slt (BitVec.ofNat 32 (i 0).val) v9))) 0#32 = 1#1

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-! ## The kernel body on any staging memrefs: a subtype the run finds -/

/-- One staging buffer of output window 7, through which its contents are stated (`View.read_writes_of_cover`: the
    choice does not matter). -/
abbrev VO0_7 : View sig .tc .vmem S4096x128 .f32 := (Memref.whole cc0_stg7_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4096x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The scratch `arg11` the kernel carries between points, as a view: what it holds is stated through it. -/
abbrev VS0_0 : View sig .tc .vmem S1024x2048 .bf16 := scM0_0.view
/-- The scratch `arg12` the kernel carries between points, as a view: what it holds is stated through it. -/
abbrev VS0_1 : View sig .tc .vmem S1024x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (RA F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Moe

end
-- ==== Proof.MoeRunA.lean ====
/- The run of the expert feed-forward body in case A: an expert's first used block: its weights are prepared into the scratch buffers, and its tokens go through them. -/
module

public import proofs.«01_k».proof.Proof.MoeRuns

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- What the body's stores leave in each buffer in case A, as pieces (last first), with the proof that the body runs
    from whole memrefs at the given contents to those pieces written. -/
noncomputable def runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S4096x128 .f32) (x1 : Vec F S1x1024x2048 .f32) (x2 : Vec F S256x256 .bf16) (x3 : Vec F S1x1x1024 .f32) (x4 : Vec F S1x1x1024 .f32) (x5 : Vec F S1x1024x1024 .f32) (x6 : Vec F S1x1x1024 .f32) (xt0 : TbBuf0 (F := F) c tbM0_0) (xt1 : TbBuf0 (F := F) c tbM0_1)
    (hc0 : cnd0 i (wd1 c xt0 i) (wd2 c xt0 i) (wdn c xt1)) (hc1 : k0_cond2 i (wdn c xt1) = 1#1) (hc2 : ¬k0_cond3 i (wdn c xt1) = 1#1) :
    Σ' (L7 : List (View.Piece (Elt F) S4096x128 .f32)), Σ' (LS0 : List (View.Piece (Elt F) S1024x2048 .bf16)), { LS1 : List (View.Piece (Elt F) S1024x1024 .bf16) //
      ∀ (E : Set ℕ) (K : PUnit → sProp (RA F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_moe_ffn_eq_skeleton]; unfold cc0_moe_ffn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HT0]; · iexact HT0
    iexact HT1

end Cert.Kernel2Ideal.Moe

end
-- ==== Proof.MoeRunB.lean ====
/- The run of the expert feed-forward body in case B: a further used block of the expert before: the tokens go through the weights the scratch buffers hold. -/
module

public import proofs.«01_k».proof.Proof.MoeRunA

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- What the body's stores leave in each buffer in case B, as pieces (last first), with the proof that the body runs
    from whole memrefs at the given contents to those pieces written. -/
noncomputable def runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S4096x128 .f32) (x1 : Vec F S1x1024x2048 .f32) (x2 : Vec F S256x256 .bf16) (x3 : Vec F S1x1x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xs0 : Vec F S1024x2048 .bf16) (xs1 : Vec F S1024x1024 .bf16)
    (hc0 : ¬cnd0 i (wd1 c xt0 i) (wd2 c xt0 i) (wdn c xt1)) (hc1 : k0_cond2 i (wdn c xt1) = 1#1) (hc2 : ¬k0_cond3 i (wdn c xt1) = 1#1) :
    Σ' (L7 : List (View.Piece (Elt F) S4096x128 .f32)), Σ' (LS0 : List (View.Piece (Elt F) S1024x2048 .bf16)), { LS1 : List (View.Piece (Elt F) S1024x1024 .bf16) //
      ∀ (E : Set ℕ) (K : PUnit → sProp (RA F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_moe_ffn_eq_skeleton]; unfold cc0_moe_ffn_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HT0]; · iexact HT0
    iexact HT1

end Cert.Kernel2Ideal.Moe

end
-- ==== Proof.MoeRunC.lean ====
/- The run of the expert feed-forward body in case C: an unused block: its rows become zero. -/
module

public import proofs.«01_k».proof.Proof.MoeRunB

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- What the body's stores leave in each buffer in case C, as pieces (last first), with the proof that the body runs
    from whole memrefs at the given contents to those pieces written. -/
noncomputable def runC (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S4096x128 .f32) (x1 : Vec F S1x1024x2048 .f32) (x2 : Vec F S256x256 .bf16) (x3 : Vec F S1x1x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xs0 : Vec F S1024x2048 .bf16) (xs1 : Vec F S1024x1024 .bf16)
    (hc0 : ¬cnd0 i (wd1 c xt0 i) (wd2 c xt0 i) (wdn c xt1)) (hc1 : ¬k0_cond2 i (wdn c xt1) = 1#1) (hc2 : k0_cond3 i (wdn c xt1) = 1#1) :
    Σ' (L7 : List (View.Piece (Elt F) S4096x128 .f32)), Σ' (LS0 : List (View.Piece (Elt F) S1024x2048 .bf16)), { LS1 : List (View.Piece (Elt F) S1024x1024 .bf16) //
      ∀ (E : Set ℕ) (K : PUnit → sProp (RA F)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_moe_ffn_eq_skeleton]; unfold cc0_moe_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HT0]; · iexact HT0
    iexact HT1

end Cert.Kernel2Ideal.Moe

end
-- ==== Proof.MoeWords.lean ====
/- The branch conditions of the expert feed-forward body in closed form over the words it reads, and what the strided
   stores of its output cover. -/
module

public import proofs.«01_k».proof.Proof.MoeRunC

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The conditions in closed form -/

/-- A flag, widened and compared with zero again, is itself. -/
theorem flag_iff (p : Bool) : Scalar.cmpi .ne (Scalar.extui (BitVec.ofBool p) : BitVec 32) 0#32 = 1#1 ↔ p = true := by
  cases p <;> decide

/-- A grid coordinate as a word, read as an integer. -/
theorem coord_toInt (i : grid0.Coords) : (BitVec.ofNat 32 (i 0).val).toInt = ((i 0).val : ℤ) := by
  have h : (i 0).val < 160 := (i 0).isLt
  exact WordCmp.toInt_ofNat_of_lt (by omega)

/-- The block is used. -/
theorem cond2_iff (i : grid0.Coords) (n : BitVec 32) : k0_cond2 i n = 1#1 ↔ ((i 0).val : ℤ) < n.toInt := by
  unfold k0_cond2
  rw [← coord_toInt i]
  exact (flag_iff _).trans decide_eq_true_iff

/-- The block is not used. -/
theorem cond3_iff (i : grid0.Coords) (n : BitVec 32) : k0_cond3 i n = 1#1 ↔ n.toInt ≤ ((i 0).val : ℤ) := by
  unfold k0_cond3
  rw [← coord_toInt i]
  exact (flag_iff _).trans decide_eq_true_iff

/-- The block is used, and it is the first or of another expert than the block before. -/
theorem cnd0_iff (i : grid0.Coords) (v2 v6 n : BitVec 32) :
    cnd0 i v2 v6 n ↔ ((i 0).val = 0 ∨ v2 ≠ v6) ∧ ((i 0).val : ℤ) < n.toInt := by
  unfold cnd0
  have h : (i 0).val < 160 := (i 0).isLt
  rw [← coord_toInt i]
  have e1 : Scalar.cmpi .eq (BitVec.ofNat 32 (i 0).val) 0#32 = BitVec.ofBool (decide ((i 0).val = 0)) := by
    refine (WordCmp.cmpi_eq_eq _ _).trans (congrArg BitVec.ofBool (decide_eq_decide.mpr ?_))
    exact (WordCmp.ofNat_eq_ofNat_iff (by omega) (by omega))
  have e2 : Scalar.cmpi .ne v2 v6 = BitVec.ofBool (decide (v2 ≠ v6)) := WordCmp.cmpi_ne_eq _ _
  have e3 : Scalar.cmpi .slt (BitVec.ofNat 32 (i 0).val) n = BitVec.ofBool (decide ((BitVec.ofNat 32 (i 0).val).toInt < n.toInt)) := rfl
  rw [e1, e2, e3]
  have e4 : ∀ p q r : Bool, Scalar.andi (Scalar.ori (BitVec.ofBool p) (BitVec.ofBool q)) (BitVec.ofBool r) = BitVec.ofBool ((p || q) && r) := by decide
  rw [e4, flag_iff]
  simp

/-! ## What the strided stores cover -/

/-- The rows of the output block that column chunk `k` of the tokens is stored to: every eighth row from row `k`. -/
def rows8 (k : Fin 8) : Rect S4096x128 where
  off := ![k.val, 0]
  size := S512x128.size
  stride := ![8, 1]
  inb a := by
    match a with
    | ⟨0, _⟩ => exact Or.inr (show k.val + 8 * (512 - 1) < 4096 by omega)
    | ⟨1, _⟩ => exact Or.inr (show 0 + 1 * (128 - 1) < 128 by omega)
  stride_pos a := by
    match a with
    | ⟨0, _⟩ => exact (by decide : 0 < 8)
    | ⟨1, _⟩ => exact (by decide : 0 < 1)

theorem mem_rows8 (y : S4096x128.Idx) : y ∈ (rows8 ⟨(y 0).val % 8, Nat.mod_lt _ (by decide)⟩).set := by
  have h0 : (y 0).val < 4096 := (y 0).isLt
  have h1 : (y 1).val < 128 := (y 1).isLt
  rw [LoadRect.mem_set]
  intro a
  match a with
  | ⟨0, _⟩ => exact ⟨(y 0).val / 8, show (y 0).val / 8 < 512 by omega, show (y 0).val = (y 0).val % 8 + 8 * ((y 0).val / 8) by omega⟩
  | ⟨1, _⟩ => exact ⟨(y 1).val, h1, show (y 1).val = 0 + 1 * (y 1).val by omega⟩

/-- Pieces at the eight chunks' rows cover the block. -/
theorem cover_rows8 (L : List (View.Piece (Elt F) S4096x128 .f32))
    (h : L.map (fun p => p.1) = [rows8 7, rows8 6, rows8 5, rows8 4, rows8 3, rows8 2, rows8 1, rows8 0]) (y : S4096x128.Idx) :
    ∃ pc ∈ L, y ∈ pc.1.set := by
  have hm : rows8 ⟨(y 0).val % 8, Nat.mod_lt _ (by decide)⟩ ∈ L.map (fun p => p.1) := by
    rw [h]
    generalize (⟨(y 0).val % 8, Nat.mod_lt _ (by decide)⟩ : Fin 8) = k
    fin_cases k <;> simp
  obtain ⟨p, hp, e⟩ := List.mem_map.mp hm
  exact ⟨p, hp, e ▸ mem_rows8 y⟩

end Cert.Kernel2Ideal.Moe

end
-- ==== Proof.MoeFrame.lean ====
/- The frame certificate of the expert feed-forward call: what each case leaves in the output block and in the two
   buffers of prepared weights, the invariant that carries those weights from block to block, the body at a generic
   block, the launch and the frame. -/
module

public import proofs.«01_k».proof.Proof.MoeWords
public import Idealize.ShloMosaic.Lib.Claim

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The three cases at a point -/

/-- Block `t` is used. -/
abbrev used (c : Dev nD) (t : Fin grid0.N) : Prop := k0_cond2 (grid0.coords t) (wdn c (tbl m 1)) = 1#1
/-- Block `t` is used and needs its expert's weights prepared. -/
abbrev fresh (c : Dev nD) (t : Fin grid0.N) : Prop :=
  cnd0 (grid0.coords t) (wd1 c (tbl m 0) (grid0.coords t)) (wd2 c (tbl m 0) (grid0.coords t)) (wdn c (tbl m 1))

theorem coords_val (t : Fin grid0.N) : ((grid0.coords t) 0).val = t.val :=
  (by decide +kernel : ∀ t : Fin grid0.N, ((grid0.coords t) 0).val = t.val) t

/-- A block whose weights are prepared is a used one. -/
theorem h1' (c : Dev nD) (t : Fin grid0.N) (h : fresh m c t) : used m c t :=
  (cond2_iff _ _).mpr ((cnd0_iff _ _ _ _).mp h).2

theorem not_cond3 (c : Dev nD) (t : Fin grid0.N) (h : used m c t) : ¬k0_cond3 (grid0.coords t) (wdn c (tbl m 1)) = 1#1 := fun h' => by
  have a := (cond2_iff _ _).mp h; have b := (cond3_iff _ _).mp h'; omega

theorem cond3_of (c : Dev nD) (t : Fin grid0.N) (h : ¬used m c t) : k0_cond3 (grid0.coords t) (wdn c (tbl m 1)) = 1#1 := by
  refine (cond3_iff _ _).mpr (not_lt.mp fun a => h ((cond2_iff _ _).mpr a))

/-- The used blocks come first. -/
theorem used_of_le (c : Dev nD) (t t' : Fin grid0.N) (hle : t'.val ≤ t.val) (h : used m c t) : used m c t' := by
  have a := (cond2_iff _ _).mp h
  rw [coords_val] at a
  refine (cond2_iff _ _).mpr ?_
  rw [coords_val]; omega

/-- The first block, used, needs its expert's weights prepared. -/
theorem fresh_zero (c : Dev nD) (t : Fin grid0.N) (hz : t.val = 0) (h : used m c t) : fresh m c t :=
  (cnd0_iff _ _ _ _).mpr ⟨Or.inl ((coords_val t).trans hz), (cond2_iff _ _).mp h⟩

/-- The output's buffer is stored into at every point, whatever the tables hold. -/
theorem live7 (pf : pre0.Contents (Elt F)) (i : grid0.Coords) : idle0 pf 7 i = false := by
  show (!(k0_cond2 i (pf.atD 1 ![0]) == 1#1) && !(k0_cond3 i (pf.atD 1 ![0]) == 1#1)) = false
  generalize pf.atD 1 ![0] = n
  by_cases h : k0_cond2 i n = 1#1
  · rw [beq_iff_eq.mpr h]; rfl
  · have h' : k0_cond3 i n = 1#1 := (cond3_iff _ _).mpr (not_lt.mp fun a => h ((cond2_iff _ _).mpr a))
    rw [beq_iff_eq.mpr h', Bool.not_true, Bool.and_false]

theorem liveAt0_7 (hO : Ok m) (t : Fin (cfgM m hO).N) : (cfgM m hO).idle 7 (grid0.coords t) = false :=
  live7 (tbl m) (grid0.coords t)

/-- The body's run at a block whose expert's weights are prepared, -/
abbrev rA (hO : Ok m) (c : Dev nD) (t : Fin (cfgM m hO).N) (h0 : fresh m c t) (h1 : used m c t) :=
  runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 (not_cond3 m c t h1)
/-- at a further block of the same expert, the weight buffers at `d0`, `d1`, -/
abbrev rB (hO : Ok m) (c : Dev nD) (t : Fin (cfgM m hO).N) (h0 : ¬fresh m c t) (h1 : used m c t) (d0 : Vec F S1024x2048 .bf16) (d1 : Vec F S1024x1024 .bf16) :=
  runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (tbl m 0) (tbl m 1) d0 d1 h0 h1 (not_cond3 m c t h1)
/-- and at an unused block. -/
abbrev rC (hO : Ok m) (c : Dev nD) (t : Fin (cfgM m hO).N) (h1 : ¬used m c t) (d0 : Vec F S1024x2048 .bf16) (d1 : Vec F S1024x1024 .bf16) :=
  runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (tbl m 0) (tbl m 1) d0 d1 (fun h => h1 (h1' m c t h)) h1 (cond3_of m c t h1)

theorem coverA (hO : Ok m) (c : Dev nD) (t : Fin (cfgM m hO).N) (h0 : fresh m c t) (h1 : used m c t) (y : S4096x128.Idx) :
    ∃ pc ∈ (rA m hO c t h0 h1).1, y ∈ pc.1.set := cover_rows8 _ rfl y
theorem coverB (hO : Ok m) (c : Dev nD) (t : Fin (cfgM m hO).N) (h0 : ¬fresh m c t) (h1 : used m c t) (d0 : Vec F S1024x2048 .bf16) (d1 : Vec F S1024x1024 .bf16) (y : S4096x128.Idx) :
    ∃ pc ∈ (rB m hO c t h0 h1 d0 d1).1, y ∈ pc.1.set := cover_rows8 _ rfl y
theorem coverC (hO : Ok m) (c : Dev nD) (t : Fin (cfgM m hO).N) (h1 : ¬used m c t) (d0 : Vec F S1024x2048 .bf16) (d1 : Vec F S1024x1024 .bf16) (y : S4096x128.Idx) :
    ∃ pc ∈ (rC m hO c t h1 d0 d1).1, y ∈ pc.1.set := View.cover_of_tiledL (rC m hO c t h1 d0 d1).1 S4096x128.size (by sl_kernel_rfl) y
theorem scoverA0 (hO : Ok m) (c : Dev nD) (t : Fin (cfgM m hO).N) (h0 : fresh m c t) (y : S1024x2048.Idx) :
    ∃ pc ∈ (rA m hO c t h0 (h1' m c t h0)).2.1, y ∈ pc.1.set := View.cover_of_tiledL (rA m hO c t h0 (h1' m c t h0)).2.1 S1024x256.size (by sl_kernel_rfl) y
theorem scoverA1 (hO : Ok m) (c : Dev nD) (t : Fin (cfgM m hO).N) (h0 : fresh m c t) (y : S1024x1024.Idx) :
    ∃ pc ∈ (rA m hO c t h0 (h1' m c t h0)).2.2.1, y ∈ pc.1.set := View.cover_of_tiledL (rA m hO c t h0 (h1' m c t h0)).2.2.1 S1024x1024.size (by sl_kernel_rfl) y

/-! ## What the buffers hold -/

/-- The two weight buffers after a block that prepares them. -/
def sA0 (hO : Ok m) (c : Dev nD) (t : Fin (cfgM m hO).N) (h0 : fresh m c t) : Vec F S1024x2048 .bf16 :=
  VS0_0.read (Elt F) (VS0_0.writes (Elt F) VS0_0.junk (rA m hO c t h0 (h1' m c t h0)).2.1)
def sA1 (hO : Ok m) (c : Dev nD) (t : Fin (cfgM m hO).N) (h0 : fresh m c t) : Vec F S1024x1024 .bf16 :=
  VS0_1.read (Elt F) (VS0_1.writes (Elt F) VS0_1.junk (rA m hO c t h0 (h1' m c t h0)).2.2.1)

open Classical in
/-- The two weight buffers after block `t`, of what they held before it, -/
def scrStep (hO : Ok m) (c : Dev nD) (t : Fin (cfgM m hO).N) (d : Vec F S1024x2048 .bf16 × Vec F S1024x1024 .bf16) : Vec F S1024x2048 .bf16 × Vec F S1024x1024 .bf16 :=
  if h : fresh m c t then (sA0 m hO c t h, sA1 m hO c t h) else d

/-- and before block `n`, once a block has prepared them. -/
def scr (hO : Ok m) (c : Dev nD) : ℕ → Vec F S1024x2048 .bf16 × Vec F S1024x1024 .bf16
  | 0 => (VS0_0.read (Elt F) VS0_0.junk, VS0_1.read (Elt F) VS0_1.junk)
  | n + 1 => if hn : n < (cfgM m hO).N then scrStep m hO c ⟨n, hn⟩ (scr hO c n) else scr hO c n

theorem scr_succ (hO : Ok m) (c : Dev nD) (t : Fin (cfgM m hO).N) : scr m hO c (t.val + 1) = scrStep m hO c t (scr m hO c t.val) := by
  rw [scr, dif_pos t.isLt]

open Classical in
/-- The output block after block `t`'s body. -/
def outV (hO : Ok m) (c : Dev nD) (t : Fin (cfgM m hO).N) : Vec F S4096x128 .f32 :=
  if h0 : fresh m c t then VO0_7.read (Elt F) (VO0_7.writes (Elt F) VO0_7.junk (rA m hO c t h0 (h1' m c t h0)).1)
  else if h1 : used m c t then VO0_7.read (Elt F) (VO0_7.writes (Elt F) VO0_7.junk (rB m hO c t h0 h1 (scr m hO c t.val).1 (scr m hO c t.val).2).1)
  else VO0_7.read (Elt F) (VO0_7.writes (Elt F) VO0_7.junk (rC m hO c t h1 (scr m hO c t.val).1 (scr m hO c t.val).2).1)

/-- What the invariant before block `n` says of the weight buffers' contents: once a used block has run, they are the
    prepared weights. -/
def holds (hO : Ok m) (c : Dev nD) (n : ℕ) (d0 : Vec F S1024x2048 .bf16) (d1 : Vec F S1024x1024 .bf16) : Prop :=
  n ≠ 0 → used m c ⟨0, by decide⟩ → (d0 = (scr m hO c n).1 ∧ d1 = (scr m hO c n).2)

theorem scr_fresh (hO : Ok m) (c : Dev nD) (t : Fin (cfgM m hO).N) (h0 : fresh m c t) :
    scr m hO c (t.val + 1) = (sA0 m hO c t h0, sA1 m hO c t h0) := by
  rw [scr_succ, scrStep, dif_pos h0]

theorem scr_A (hO : Ok m) (c : Dev nD) (t : Fin (cfgM m hO).N) (h0 : fresh m c t) :
    sA0 m hO c t h0 = (scr m hO c (t.val + 1)).1 ∧ sA1 m hO c t h0 = (scr m hO c (t.val + 1)).2 := by
  rw [scr_fresh m hO c t h0]
  generalize sA0 m hO c t h0 = a
  generalize sA1 m hO c t h0 = b
  exact ⟨rfl, rfl⟩

theorem scr_same (hO : Ok m) (c : Dev nD) (t : Fin (cfgM m hO).N) (h0 : ¬fresh m c t) :
    scr m hO c (t.val + 1) = scr m hO c t.val := by
  rw [scr_succ, scrStep, dif_neg h0]

theorem scr_keep (hO : Ok m) (c : Dev nD) (t : Fin (cfgM m hO).N) (h0 : ¬fresh m c t) (h1 : used m c t) (d0 : Vec F S1024x2048 .bf16) (d1 : Vec F S1024x1024 .bf16)
    (hd : holds m hO c t.val d0 d1) : holds m hO c (t.val + 1) d0 d1 := fun _ hu => by
  rw [scr_same m hO c t h0]
  exact hd (fun hz => h0 (fresh_zero m c t hz h1)) hu

theorem scr_unused (hO : Ok m) (c : Dev nD) (t : Fin (cfgM m hO).N) (h1 : ¬used m c t) (d0 : Vec F S1024x2048 .bf16) (d1 : Vec F S1024x1024 .bf16)
    (hd : holds m hO c t.val d0 d1) : holds m hO c (t.val + 1) d0 d1 := fun _ hu => by
  rw [scr_same m hO c t fun h => h1 (h1' m c t h)]
  refine hd (fun hz => h1 ?_) hu
  have e : (⟨0, by decide⟩ : Fin grid0.N) = t := Fin.ext hz.symm
  exact e ▸ hu

theorem out_A (hO : Ok m) (c : Dev nD) (t : Fin (cfgM m hO).N) (h0 : fresh m c t) :
    outV m hO c t = VO0_7.read (Elt F) (VO0_7.writes (Elt F) VO0_7.junk (rA m hO c t h0 (h1' m c t h0)).1) := dif_pos h0

theorem out_B (hO : Ok m) (c : Dev nD) (t : Fin (cfgM m hO).N) (h0 : ¬fresh m c t) (h1 : used m c t) (d0 : Vec F S1024x2048 .bf16) (d1 : Vec F S1024x1024 .bf16)
    (hd : holds m hO c t.val d0 d1) :
    outV m hO c t = VO0_7.read (Elt F) (VO0_7.writes (Elt F) VO0_7.junk (rB m hO c t h0 h1 d0 d1).1) := by
  obtain ⟨e0, e1⟩ := hd (fun hz => h0 (fresh_zero m c t hz h1)) (used_of_le m c t _ (Nat.zero_le _) h1)
  subst e0; subst e1
  exact (dif_neg h0).trans (dif_pos h1)

theorem out_C (hO : Ok m) (c : Dev nD) (t : Fin (cfgM m hO).N) (h1 : ¬used m c t) (d0 : Vec F S1024x2048 .bf16) (d1 : Vec F S1024x1024 .bf16) :
    outV m hO c t = VO0_7.read (Elt F) (VO0_7.writes (Elt F) VO0_7.junk (rC m hO c t h1 d0 d1).1) :=
  (dif_neg fun h => h1 (h1' m c t h)).trans ((dif_neg h1).trans rfl)

/-- The region invariant before block `n`: the weight buffers at contents of which `holds` holds, the generator register at
    some state, and the tables' halves. -/
def PhiS (hO : Ok m) (c : Dev nD) (n : ℕ) : sProp (RA F) :=
  iprop(∃ d0 d1, ⌜holds m hO c n d0 d1⌝ ∗ owns (c : Thread nD τ) scM0_0 fullShare d0 ∗ owns (c : Thread nD τ) scM0_1 fullShare d1
    ∗ (∃ r, prngReg c r) ∗ tbPt0 c tbM0_0 (tbl m 0) ∗ tbPt0 c tbM0_1 (tbl m 1))

/-! ## The pipeline's proof data -/

/-- The proof data of the pipeline on core `c`: the arrays as the region finds them, each input's buffer at its block and
    the output's at `outV` after the body, the invariant `PhiS`, nothing owed, full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outV m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outV m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body at a generic point -/

/-- What the body is called with at point `t`, -/
def bodyPre (hO : Ok m) (c : Dev nD) (t : Fin (cfgM m hO).N) : sProp (RA F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp (RA F) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 12800000 in
/-- The body at any point: the inputs' memrefs hold their blocks, the words say which case the point is in, the case's run
    applies, and the invariant takes the weight buffers back. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) from rfl, show (dats m hO 0 c).Φ t.castSucc = PhiS m hO c t.val from rfl]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  unfold PhiS
  iintro ⟨⟨%d0, %d1, %hd, HS0, HS1, Hg, HT0, HT1⟩, Ho, ⟨%b0, H0⟩, ⟨%b1, H1⟩, ⟨%b2, H2⟩, ⟨%b3, H3⟩, ⟨%b4, H4⟩, ⟨%b5, H5⟩, ⟨%b6, H6⟩, ⟨%b7, H7⟩⟩
  by_cases h0 : fresh m c t
  · iapply ((rA m hO c t h0 (h1' m c t h0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    isplitl [HT0]; · iexact HT0
    isplitl [HT1]; · iexact HT1
    iintro ⟨H0, H1, H2, H3, H4, H5, H6, ⟨%e7, H7⟩, ⟨%es0, HS0⟩, ⟨%es1, HS1⟩, HT0, HT1⟩
    isplitl [HS0 HS1 Hg HT0 HT1]
    · iexists (sA0 m hO c t h0), (sA1 m hO c t h0)
      isplitr
      · ipureintro; intro _ _; exact scr_A m hO c t h0
      isplitl [HS0]
      · unfold owns; iexists _; isplitr
        swap; · iexact HS0
        ipureintro; exact View.read_writes_of_cover _ _ _ _ _ (scoverA0 m hO c t h0)
      isplitl [HS1]
      · unfold owns; iexists _; isplitr
        swap; · iexact HS1
        ipureintro; exact View.read_writes_of_cover _ _ _ _ _ (scoverA1 m hO c t h0)
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [out_A m hO c t h0]
    unfold owns; iexists _; isplitr
    swap; · iexact H7
    ipureintro; exact View.read_writes_of_cover _ _ _ _ _ (coverA m hO c t h0 (h1' m c t h0))
  by_cases h1 : used m c t
  · iapply ((rB m hO c t h0 h1 d0 d1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HT0]; · iexact HT0
    isplitl [HT1]; · iexact HT1
    iintro ⟨H0, H1, H2, H3, H4, H5, H6, ⟨%e7, H7⟩, HS0, HS1, HT0, HT1⟩
    isplitl [HS0 HS1 Hg HT0 HT1]
    · iexists d0, d1
      isplitr
      · ipureintro; exact scr_keep m hO c t h0 h1 d0 d1 hd
      isplitl [HS0]; · iexact HS0
      isplitl [HS1]; · iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [out_B m hO c t h0 h1 d0 d1 hd]
    unfold owns; iexists _; isplitr
    swap; · iexact H7
    ipureintro; exact View.read_writes_of_cover _ _ _ _ _ (coverB m hO c t h0 h1 d0 d1)
  · iapply ((rC m hO c t h1 d0 d1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HT0]; · iexact HT0
    isplitl [HT1]; · iexact HT1
    iintro ⟨H0, H1, H2, H3, H4, H5, H6, ⟨%e7, H7⟩, HS0, HS1, HT0, HT1⟩
    isplitl [HS0 HS1 Hg HT0 HT1]
    · iexists d0, d1
      isplitr
      · ipureintro; exact scr_unused m hO c t h1 d0 d1 hd
      isplitl [HS0]; · iexact HS0
      isplitl [HS1]; · iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [out_C m hO c t h1 d0 d1]
    unfold owns; iexists _; isplitr
    swap; · iexact H7
    ipureintro; exact View.read_writes_of_cover _ _ _ _ _ (coverC m hO c t h1 d0 d1)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiT0_eq, PhiA0_eq]
  unfold PhiS
  iintro ⟨⟨⟨⟨%d0, HS0⟩, ⟨%d1, HS1⟩⟩, Hg⟩, ⟨HT0, HT1⟩⟩
  iexists d0, d1
  isplitr
  · ipureintro; intro h; exact absurd rfl h
  isplitl [HS0]; · iexact HS0
  isplitl [HS1]; · iexact HS1
  isplitl [Hg]; · iexact Hg
  isplitl [HT0]; · iexact HT0
  iexact HT1

/-- After the last point the invariant gives the region's buffers back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl, PhiA0_eq]
  unfold PhiS
  iintro ⟨%d0, %d1, -, HS0, HS1, Hg, -⟩
  isplitl [HS0 HS1]
  · isplitl [HS0]
    · iexists _; iexact HS0
    iexists _; iexact HS1
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim's statement, at any float, for tables the pipeline admits. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel2Ideal.Moe

end
-- ==== Proof.MoePre.lean ====
/- Tables of experts in range are tables the pipeline of `Kernel2Ideal` admits. -/
module

public import proofs.«01_k».proof.Proof.MoeFrame
public import proofs.«01_k».proof.Proof.MoeRange

@[expose] public section

noncomputable section

namespace Cert.Kernel2Ideal.Moe

open Idealize.ShloMosaic Idealize.ShloMosaic.TcCoe Cert.Kernel2Ideal Cert.Kernel2Ideal.Gen

variable {F : FTy → Type} [FloatOps F] (m : (ℓ : Loc nD τ sig) → Buf (Elt F) ℓ)

/-- The first table is the first argument. -/
theorem tbl_zero : tbl m 0 = m (((0 : Dev nD).tc : Thread nD τ).loc main_arg0) := by
  unfold tbl; exact V_main_arg0 m 0

/-- The second table is the second argument. -/
theorem tbl_one : tbl m 1 = m (((0 : Dev nD).tc : Thread nD τ).loc main_arg1) := by
  unfold tbl; exact V_main_arg1 m 0

theorem ok_of (h : ∀ j : S160.Idx, ((m (((0 : Dev nD).tc : Thread nD τ).loc main_arg0) : S160.Idx → BitVec 32) j).toNat < 32) : Ok m := by
  have h' : ∀ j : S160.Idx, ((tbl m 0 : S160.Idx → BitVec 32) j).toNat < 32 := by rw [tbl_zero]; exact h
  unfold Ok
  generalize tbl m = pf at h'
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  all_goals
    match a with
    | ⟨0, _⟩ => exact (Nat.mul_one _).trans_le (h' _)
    | ⟨1, _⟩ => exact (Nat.one_mul _).le
    | ⟨2, _⟩ => exact (Nat.one_mul _).le

theorem ok_pre (m : (ℓ : Loc nD τ sig) → Buf (Elt Ideal) ℓ) (h : ∀ c : Dev nD,
    Cert.Pre_expert_in_range.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Ok m :=
  ok_of m (fun j => Cert.Pre_expert_in_range.read (h 0) j)

end Cert.Kernel2Ideal.Moe

end
-- ==== Proof.MoeSpec.lean ====
/- The expert feed-forward as a function of the arrays: the gated activation, one expert's two layers on one token. -/
module

public import Idealize.ShloMosaic.Lib.Pointwise
public import Idealize.ShloMosaic.Lib.Pipeline.ValueKit

@[expose] public section

noncomputable section

namespace Cert.MoeSpec

open Idealize.ShloMosaic

/-- The gated activation of a gate and a linear part: both clamped, the linear part raised by one, times the gate,
    times the logistic of the scaled gate. -/
def act (g u : EReal) : EReal :=
  (min (Ideal.ofBits .f32 0x40E00000#32) (max (Ideal.ofBits .f32 0xC0E00000#32) u) + 1) * min g (Ideal.ofBits .f32 0x40E00000#32) *
    Ideal.logistic (Ideal.ofBits .f32 0x3FD9DB23#32 * min g (Ideal.ofBits .f32 0x40E00000#32))

/-- Column `2 f` of the first layer: the gate of hidden unit `f`. -/
def even (f : Fin 1024) : Fin 2048 := ⟨2 * f.val, by omega⟩
/-- Column `2 f + 1` of the first layer: the linear part of hidden unit `f`. -/
def odd (f : Fin 1024) : Fin 2048 := ⟨2 * f.val + 1, by omega⟩

/-- One token through one expert: `x` the token, `w` and `b` the first layer, `wd` and `bd` the second, `n` the
    output column. -/
def ffn (x : Fin 1024 → EReal) (w : Fin 1024 → Fin 2048 → EReal) (b : Fin 2048 → EReal) (wd : Fin 1024 → EReal) (bd : EReal) : EReal :=
  (∑ f, act ((∑ d, x d * w d (even f)) + b (even f)) ((∑ d, x d * w d (odd f)) + b (odd f)) * wd f) + bd

end Cert.MoeSpec

end
-- ==== Proof.MoeMath.lean ====
/- The values of the expert feed-forward body's vector programs, read at an index. -/
module

public import proofs.«01_k».proof.Proof.Gen.Kernel2Ideal.Skeleton
public import proofs.«01_k».proof.Proof.MoeSpec

@[expose] public section

set_option maxRecDepth 16384

noncomputable section

namespace Cert.Kernel2Ideal.Moe

open Cert.Kernel2Ideal.Gen Cert.MoeSpec
open Idealize.ShloMosaic Idealize.ShloMosaic.TcCoe Idealize.SL.Sem

/-- Hidden unit `f` of row `r`, from the reordered first layer. -/
def hid (gu : FVec Ideal S512x2048 .f32) (bg bu : FVec Ideal S1x1024 .f32) (r : Fin 512) (f : Fin 1024) : EReal :=
  act (gu (ix2 r ⟨256 * (f.val / 128) + f.val % 128, by omega⟩) + bg (ix2 0 f))
    (gu (ix2 r ⟨256 * (f.val / 128) + 128 + f.val % 128, by omega⟩) + bu (ix2 0 f))

theorem hid_of (gu : FVec Ideal S512x2048 .f32) (bg bu : FVec Ideal S1x1024 .f32) (r : Fin 512) (f f' : Fin 1024) (a b : Fin 2048)
    (hf : f'.val = f.val) (ha : a.val = 256 * (f.val / 128) + f.val % 128) (hb : b.val = 256 * (f.val / 128) + 128 + f.val % 128) :
    act (gu (ix2 r a) + bg (ix2 0 f')) (gu (ix2 r b) + bu (ix2 0 f')) = hid gu bg bu r f := by
  obtain rfl : f' = f := Fin.ext hf
  exact congrArg₂ act (congrArg (fun a => gu (ix2 r a) + bg (ix2 0 f')) (Fin.ext ha)) (congrArg (fun b => gu (ix2 r b) + bu (ix2 0 f')) (Fin.ext hb))

/-- A case distinction whose cases all have the same value. -/
theorem lad {α : Type} {c : Prop} [Decidable c] {a : c → α} {b : ¬c → α} {v : α} (ha : ∀ h, a h = v) (hb : ∀ h, b h = v) : dite c a b = v := by
  by_cases h : c
  · rw [dif_pos h]; exact ha h
  · rw [dif_neg h]; exact hb h

theorem hid_1 (gu : FVec Ideal S512x2048 .f32) (bg bu : FVec Ideal S1x1024 .f32) (r : Fin 512) (l : Fin 128) :
    k0_pay22 gu bg bu (ix2 r l) = hid gu bg bu r ⟨128 + l.val, by omega⟩ := by
  pointwise [k0_pay22]
  exact hid_of gu bg bu r ⟨128 + l.val, by omega⟩ ⟨128 + l.val, by omega⟩ ⟨256 + l.val, by omega⟩ ⟨384 + l.val, by omega⟩ rfl (by dsimp only; omega) (by dsimp only; omega)

theorem hid_2 (gu : FVec Ideal S512x2048 .f32) (bg bu : FVec Ideal S1x1024 .f32) (r : Fin 512) (l : Fin 128) :
    k0_pay26 (k0_pay24 gu bg bu) (k0_pay25 gu bg) (ix2 r l) = hid gu bg bu r ⟨256 + l.val, by omega⟩ := by
  pointwise [k0_pay26, k0_pay24, k0_pay25, k0_pay23]
  exact hid_of gu bg bu r ⟨256 + l.val, by omega⟩ ⟨256 + l.val, by omega⟩ ⟨512 + l.val, by omega⟩ ⟨640 + l.val, by omega⟩ rfl (by dsimp only; omega) (by dsimp only; omega)

theorem hid_3 (gu : FVec Ideal S512x2048 .f32) (bg bu : FVec Ideal S1x1024 .f32) (r : Fin 512) (l : Fin 128) :
    k0_pay27 gu bg bu (ix2 r l) = hid gu bg bu r ⟨384 + l.val, by omega⟩ := by
  pointwise [k0_pay27]
  exact hid_of gu bg bu r ⟨384 + l.val, by omega⟩ ⟨384 + l.val, by omega⟩ ⟨768 + l.val, by omega⟩ ⟨896 + l.val, by omega⟩ rfl (by dsimp only; omega) (by dsimp only; omega)

theorem hid_4 (gu : FVec Ideal S512x2048 .f32) (bg bu : FVec Ideal S1x1024 .f32) (r : Fin 512) (l : Fin 128) :
    k0_pay28 gu bg bu (ix2 r l) = hid gu bg bu r ⟨512 + l.val, by omega⟩ := by
  pointwise [k0_pay28]
  exact hid_of gu bg bu r ⟨512 + l.val, by omega⟩ ⟨512 + l.val, by omega⟩ ⟨1024 + l.val, by omega⟩ ⟨1152 + l.val, by omega⟩ rfl (by dsimp only; omega) (by dsimp only; omega)

theorem hid_5 (gu : FVec Ideal S512x2048 .f32) (bg bu : FVec Ideal S1x1024 .f32) (r : Fin 512) (l : Fin 128) :
    k0_pay30 gu bu (k0_pay29 gu bg) (ix2 r l) = hid gu bg bu r ⟨640 + l.val, by omega⟩ := by
  pointwise [k0_pay30, k0_pay29]
  exact hid_of gu bg bu r ⟨640 + l.val, by omega⟩ ⟨640 + l.val, by omega⟩ ⟨1280 + l.val, by omega⟩ ⟨1408 + l.val, by omega⟩ rfl (by dsimp only; omega) (by dsimp only; omega)

theorem hid_6 (gu : FVec Ideal S512x2048 .f32) (bg bu : FVec Ideal S1x1024 .f32) (r : Fin 512) (l : Fin 128) :
    k0_pay31 gu bg bu (ix2 r l) = hid gu bg bu r ⟨768 + l.val, by omega⟩ := by
  pointwise [k0_pay31]
  exact hid_of gu bg bu r ⟨768 + l.val, by omega⟩ ⟨768 + l.val, by omega⟩ ⟨1536 + l.val, by omega⟩ ⟨1664 + l.val, by omega⟩ rfl (by dsimp only; omega) (by dsimp only; omega)

theorem hid_0 (a0 a1 a2 a3 a4 a5 a6 a7 : FVec Ideal S512x128 .f32) (p : Vec Ideal S1024x2048 .bf16) (x3 x4 : Vec Ideal S1x1x1024 .f32) (r : Fin 512) (l : Fin 128) :
    k0_pay21 (k0_pay18 a0 a1 a2 a3 a4 a5 a6 a7 p x3) (k0_pay19 a0 a1 a2 a3 a4 a5 a6 a7 p x4) k0_pay20 (ix2 r l)
      = hid (k0_pay15 a0 a1 a2 a3 a4 a5 a6 a7 p) (k0_pay16 x3) (k0_pay17 x4) r ⟨l.val, by omega⟩ := by
  generalize hg : k0_pay15 a0 a1 a2 a3 a4 a5 a6 a7 p = gu
  generalize hb : k0_pay16 x3 = bg
  generalize hu : k0_pay17 x4 = bu
  pointwise [k0_pay21, k0_pay18, k0_pay19, k0_pay20]
  rw [hg, hb, hu]
  exact hid_of gu bg bu r ⟨l.val, by omega⟩ ⟨l.val, by omega⟩ ⟨l.val, by omega⟩ ⟨128 + l.val, by omega⟩ rfl (by dsimp only; omega) (by dsimp only; omega)

theorem b15 (x : Vec Ideal S1x1x1024 .f32) (f : Fin 1024) : k0_pay16 x (ix2 0 f) = x (ix3 0 0 f) := by pointwise [k0_pay16]
theorem b16 (x : Vec Ideal S1x1x1024 .f32) (f : Fin 1024) : k0_pay17 x (ix2 0 f) = x (ix3 0 0 f) := by pointwise [k0_pay17]

/-- The first layer: the rows' eight pieces joined, times the prepared weights. -/
theorem gu_at (a0 a1 a2 a3 a4 a5 a6 a7 : FVec Ideal S512x128 .f32) (p : Vec Ideal S1024x2048 .bf16) (H : Fin 512 → Fin 1024 → EReal)
    (h0 : ∀ (r : Fin 512) (l : Fin 128), a0 (ix2 r l) = H r ⟨0 + l.val, by omega⟩)
    (h1 : ∀ (r : Fin 512) (l : Fin 128), a1 (ix2 r l) = H r ⟨128 + l.val, by omega⟩)
    (h2 : ∀ (r : Fin 512) (l : Fin 128), a2 (ix2 r l) = H r ⟨256 + l.val, by omega⟩)
    (h3 : ∀ (r : Fin 512) (l : Fin 128), a3 (ix2 r l) = H r ⟨384 + l.val, by omega⟩)
    (h4 : ∀ (r : Fin 512) (l : Fin 128), a4 (ix2 r l) = H r ⟨512 + l.val, by omega⟩)
    (h5 : ∀ (r : Fin 512) (l : Fin 128), a5 (ix2 r l) = H r ⟨640 + l.val, by omega⟩)
    (h6 : ∀ (r : Fin 512) (l : Fin 128), a6 (ix2 r l) = H r ⟨768 + l.val, by omega⟩)
    (h7 : ∀ (r : Fin 512) (l : Fin 128), a7 (ix2 r l) = H r ⟨896 + l.val, by omega⟩)
    (r : Fin 512) (j : Fin 2048) : k0_pay15 a0 a1 a2 a3 a4 a5 a6 a7 p (ix2 r j) = ∑ d, H r d * p (ix2 d j) := by
  pointwise [k0_pay15]
  refine Finset.sum_congr rfl fun d _ => ?_
  congr 1
  refine lad (fun h => ?_) fun h => ?_
  · rw [h0]; congr 1; apply Fin.ext; dsimp only; omega
  refine lad (fun h => ?_) fun h => ?_
  · rw [h1]; congr 1; apply Fin.ext; dsimp only; omega
  refine lad (fun h => ?_) fun h => ?_
  · rw [h2]; congr 1; apply Fin.ext; dsimp only; omega
  refine lad (fun h => ?_) fun h => ?_
  · rw [h3]; congr 1; apply Fin.ext; dsimp only; omega
  refine lad (fun h => ?_) fun h => ?_
  · rw [h4]; congr 1; apply Fin.ext; dsimp only; omega
  refine lad (fun h => ?_) fun h => ?_
  · rw [h5]; congr 1; apply Fin.ext; dsimp only; omega
  refine lad (fun h => ?_) fun h => ?_
  · rw [h6]; congr 1; apply Fin.ext; dsimp only; omega
  · rw [h7]; congr 1; apply Fin.ext; dsimp only; omega

/-- The second layer. -/
theorem second (c0 c1 c2 c3 c4 c5 c6 : FVec Ideal S512x128 .bf16) (gu : FVec Ideal S512x2048 .f32) (bg bu : FVec Ideal S1x1024 .f32) (s1 : Vec Ideal S1024x1024 .bf16) (x6 : Vec Ideal S1x1x1024 .f32)
    (h0 : ∀ (r : Fin 512) (l : Fin 128), c0 (ix2 r l) = hid gu bg bu r ⟨0 + l.val, by omega⟩)
    (h1 : ∀ (r : Fin 512) (l : Fin 128), c1 (ix2 r l) = hid gu bg bu r ⟨128 + l.val, by omega⟩)
    (h2 : ∀ (r : Fin 512) (l : Fin 128), c2 (ix2 r l) = hid gu bg bu r ⟨256 + l.val, by omega⟩)
    (h3 : ∀ (r : Fin 512) (l : Fin 128), c3 (ix2 r l) = hid gu bg bu r ⟨384 + l.val, by omega⟩)
    (h4 : ∀ (r : Fin 512) (l : Fin 128), c4 (ix2 r l) = hid gu bg bu r ⟨512 + l.val, by omega⟩)
    (h5 : ∀ (r : Fin 512) (l : Fin 128), c5 (ix2 r l) = hid gu bg bu r ⟨640 + l.val, by omega⟩)
    (h6 : ∀ (r : Fin 512) (l : Fin 128), c6 (ix2 r l) = hid gu bg bu r ⟨768 + l.val, by omega⟩)
    (r : Fin 512) (n : Fin 1024) :
    k0_pay35 c0 c1 c2 c3 c4 c5 c6 (k0_pay32 gu bg) (k0_pay33 gu) (k0_pay34 bu) s1 x6 (ix2 r n) = (∑ f, hid gu bg bu r f * s1 (ix2 f n)) + x6 (ix3 0 0 n) := by
  pointwise [k0_pay35, k0_pay32, k0_pay33, k0_pay34]
  congr 1
  refine Finset.sum_congr rfl fun f _ => ?_
  congr 1
  refine lad (fun h => ?_) fun h => ?_
  · rw [h0]; congr 1; apply Fin.ext; dsimp only; omega
  refine lad (fun h => ?_) fun h => ?_
  · rw [h1]; congr 1; apply Fin.ext; dsimp only; omega
  refine lad (fun h => ?_) fun h => ?_
  · rw [h2]; congr 1; apply Fin.ext; dsimp only; omega
  refine lad (fun h => ?_) fun h => ?_
  · rw [h3]; congr 1; apply Fin.ext; dsimp only; omega
  refine lad (fun h => ?_) fun h => ?_
  · rw [h4]; congr 1; apply Fin.ext; dsimp only; omega
  refine lad (fun h => ?_) fun h => ?_
  · rw [h5]; congr 1; apply Fin.ext; dsimp only; omega
  refine lad (fun h => ?_) fun h => ?_
  · rw [h6]; congr 1; apply Fin.ext; dsimp only; omega
  · exact hid_of gu bg bu r f _ _ _ (by dsimp only; omega) (by dsimp only; omega) (by dsimp only; omega)

/-- A block's whole result, from the rows' pieces, the prepared weights and the biases. -/
def full (a0 a1 a2 a3 a4 a5 a6 a7 : FVec Ideal S512x128 .f32) (s0 : Vec Ideal S1024x2048 .bf16) (s1 : Vec Ideal S1024x1024 .bf16) (x3 x4 x6 : Vec Ideal S1x1x1024 .f32) : FVec Ideal S512x1024 .f32 :=
  k0_pay35 (k0_pay21 (k0_pay18 a0 a1 a2 a3 a4 a5 a6 a7 s0 x3) (k0_pay19 a0 a1 a2 a3 a4 a5 a6 a7 s0 x4) k0_pay20) (k0_pay22 (k0_pay15 a0 a1 a2 a3 a4 a5 a6 a7 s0) (k0_pay16 x3) (k0_pay17 x4)) (k0_pay26 (k0_pay24 (k0_pay15 a0 a1 a2 a3 a4 a5 a6 a7 s0) (k0_pay16 x3) (k0_pay17 x4)) (k0_pay25 (k0_pay15 a0 a1 a2 a3 a4 a5 a6 a7 s0) (k0_pay16 x3))) (k0_pay27 (k0_pay15 a0 a1 a2 a3 a4 a5 a6 a7 s0) (k0_pay16 x3) (k0_pay17 x4)) (k0_pay28 (k0_pay15 a0 a1 a2 a3 a4 a5 a6 a7 s0) (k0_pay16 x3) (k0_pay17 x4)) (k0_pay30 (k0_pay15 a0 a1 a2 a3 a4 a5 a6 a7 s0) (k0_pay17 x4) (k0_pay29 (k0_pay15 a0 a1 a2 a3 a4 a5 a6 a7 s0) (k0_pay16 x3))) (k0_pay31 (k0_pay15 a0 a1 a2 a3 a4 a5 a6 a7 s0) (k0_pay16 x3) (k0_pay17 x4)) (k0_pay32 (k0_pay15 a0 a1 a2 a3 a4 a5 a6 a7 s0) (k0_pay16 x3)) (k0_pay33 (k0_pay15 a0 a1 a2 a3 a4 a5 a6 a7 s0)) (k0_pay34 (k0_pay17 x4)) s1 x6

/-- A block's result at a row and a column, when the prepared weights are the expert's. -/
theorem full_at (a0 a1 a2 a3 a4 a5 a6 a7 : FVec Ideal S512x128 .f32) (s0 : Vec Ideal S1024x2048 .bf16) (s1 : Vec Ideal S1024x1024 .bf16) (x3 x4 x6 : Vec Ideal S1x1x1024 .f32)
    (H : Fin 512 → Fin 1024 → EReal) (W : Fin 1024 → Fin 2048 → EReal) (B : Fin 2048 → EReal) (D : Fin 1024 → Fin 1024 → EReal) (E : Fin 1024 → EReal)
    (h0 : ∀ (r : Fin 512) (l : Fin 128), a0 (ix2 r l) = H r ⟨0 + l.val, by omega⟩)
    (h1 : ∀ (r : Fin 512) (l : Fin 128), a1 (ix2 r l) = H r ⟨128 + l.val, by omega⟩)
    (h2 : ∀ (r : Fin 512) (l : Fin 128), a2 (ix2 r l) = H r ⟨256 + l.val, by omega⟩)
    (h3 : ∀ (r : Fin 512) (l : Fin 128), a3 (ix2 r l) = H r ⟨384 + l.val, by omega⟩)
    (h4 : ∀ (r : Fin 512) (l : Fin 128), a4 (ix2 r l) = H r ⟨512 + l.val, by omega⟩)
    (h5 : ∀ (r : Fin 512) (l : Fin 128), a5 (ix2 r l) = H r ⟨640 + l.val, by omega⟩)
    (h6 : ∀ (r : Fin 512) (l : Fin 128), a6 (ix2 r l) = H r ⟨768 + l.val, by omega⟩)
    (h7 : ∀ (r : Fin 512) (l : Fin 128), a7 (ix2 r l) = H r ⟨896 + l.val, by omega⟩)
    (hW : ∀ (d : Fin 1024) (j : Fin 2048), s0 (ix2 d j) = W d ⟨256 * (j.val / 256) + 2 * (j.val % 128) + j.val / 128 % 2, by omega⟩)
    (hD : ∀ f n, s1 (ix2 f n) = D f n) (h3' : ∀ f, x3 (ix3 0 0 f) = B (even f)) (h4' : ∀ f, x4 (ix3 0 0 f) = B (odd f)) (h6' : ∀ n, x6 (ix3 0 0 n) = E n)
    (r : Fin 512) (n : Fin 1024) : full a0 a1 a2 a3 a4 a5 a6 a7 s0 s1 x3 x4 x6 (ix2 r n) = ffn (H r) W B (fun f => D f n) (E n) := by
  unfold full ffn
  rw [second _ _ _ _ _ _ _ (k0_pay15 a0 a1 a2 a3 a4 a5 a6 a7 s0) (k0_pay16 x3) (k0_pay17 x4) s1 x6
    (fun r l => (hid_0 a0 a1 a2 a3 a4 a5 a6 a7 s0 x3 x4 r l).trans (by congr 1; apply Fin.ext; dsimp only; omega)) (hid_1 _ _ _) (hid_2 _ _ _) (hid_3 _ _ _) (hid_4 _ _ _) (hid_5 _ _ _) (hid_6 _ _ _) r n, h6']
  congr 1
  refine Finset.sum_congr rfl fun f _ => ?_
  rw [hD]
  congr 1
  unfold hid
  rw [b15, b16, h3', h4', gu_at a0 a1 a2 a3 a4 a5 a6 a7 s0 H h0 h1 h2 h3 h4 h5 h6 h7, gu_at a0 a1 a2 a3 a4 a5 a6 a7 s0 H h0 h1 h2 h3 h4 h5 h6 h7]
  congr 2
  · refine Finset.sum_congr rfl fun d _ => ?_
    rw [hW]; congr 2; apply Fin.ext; dsimp only [even]; omega
  · refine Finset.sum_congr rfl fun d _ => ?_
    rw [hW]; congr 2; apply Fin.ext; dsimp only [odd]; omega

/-- A permutation's column picks one entry. -/
theorem pick (g : Fin 256 → EReal) (p : Vec Ideal S256x256 .bf16) (k0 f : Fin 256)
    (hp : ∀ k : Fin 256, p (ix2 k f) = if k = k0 then 1 else 0) : (∑ k, g k * p (ix2 k f)) = g k0 := by
  rw [Finset.sum_eq_single k0]
  · rw [hp, if_pos rfl, mul_one]
  · intro k _ hk; rw [hp, if_neg hk, mul_zero]
  · intro h; exact absurd (Finset.mem_univ _) h

theorem prep_7 (w : Vec Ideal S1x1024x256 .f32) (p : Vec Ideal S256x256 .bf16) (d : Fin 1024) (f : Fin 256) :
    k0_pay7 w p (ix2 d f) = ∑ k, w (ix3 0 d k) * p (ix2 k f) := by pointwise [k0_pay7]
theorem prep_8 (w : Vec Ideal S1x1024x256 .f32) (p : Vec Ideal S256x256 .bf16) (d : Fin 1024) (f : Fin 256) :
    k0_pay8 w p (ix2 d f) = ∑ k, w (ix3 0 d k) * p (ix2 k f) := by pointwise [k0_pay8]
theorem prep_9 (w : Vec Ideal S1x1024x256 .f32) (p : Vec Ideal S256x256 .bf16) (d : Fin 1024) (f : Fin 256) :
    k0_pay9 w p (ix2 d f) = ∑ k, w (ix3 0 d k) * p (ix2 k f) := by pointwise [k0_pay9]
theorem prep_10 (w : Vec Ideal S1x1024x256 .f32) (p : Vec Ideal S256x256 .bf16) (d : Fin 1024) (f : Fin 256) :
    k0_pay11 (k0_pay10 w) p (ix2 d f) = ∑ k, w (ix3 0 d k) * p (ix2 k f) := by pointwise [k0_pay11, k0_pay10]
theorem prep_11 (w : Vec Ideal S1x1024x256 .f32) (p : Vec Ideal S256x256 .bf16) (d : Fin 1024) (f : Fin 256) :
    k0_pay12 w p (ix2 d f) = ∑ k, w (ix3 0 d k) * p (ix2 k f) := by pointwise [k0_pay12]
theorem prep_12 (w : Vec Ideal S1x1024x256 .f32) (p : Vec Ideal S256x256 .bf16) (d : Fin 1024) (f : Fin 256) :
    k0_pay13 w p (ix2 d f) = ∑ k, w (ix3 0 d k) * p (ix2 k f) := by pointwise [k0_pay13]
theorem prep_1 (w : Vec Ideal S1x1024x256 .f32) (p : Vec Ideal S256x256 .bf16) (d : Fin 1024) (f : Fin 256) :
    k0_pay1 (k0_pay14 w p) (ix2 d f) = ∑ k, w (ix3 0 d k) * p (ix2 k f) := by pointwise [k0_pay1, k0_pay14]
theorem prep_2 (w : Vec Ideal S1x1024x256 .f32) (p : Vec Ideal S256x256 .bf16) (d : Fin 1024) (f : Fin 256) :
    k0_pay2 w p (ix2 d f) = ∑ k, w (ix3 0 d k) * p (ix2 k f) := by pointwise [k0_pay2]
theorem prep_3 (w : Vec Ideal S1x1024x1024 .f32) (f n : Fin 1024) : k0_pay3 w (ix2 f n) = w (ix3 0 f n) := by pointwise [k0_pay3]

end Cert.Kernel2Ideal.Moe

end
-- ==== Proof.MoeScr.lean ====
/- What the preparation of an expert's weights leaves in the two scratch buffers. -/
module

public import proofs.«01_k».proof.Proof.MoeFrame
public import proofs.«01_k».proof.Proof.MoeMath
public import Idealize.ShloMosaic.Lib.Pointwise
public import Idealize.ShloMosaic.Lib.Pipeline.ValueKit

@[expose] public section

set_option maxRecDepth 16384

noncomputable section

namespace Cert.Kernel2Ideal.Moe

open Cert.Kernel2Ideal.Gen Cert.MoeSpec
open Idealize.ShloMosaic Idealize.ShloMosaic.TcCoe Idealize.SL.Sem
open Idealize.ShloMosaic.Pipeline (Dat Cfg Window BodyObligation cellOf)

/-- A load from a whole buffer of known contents. -/
theorem readAt_unread {s : Shape} {e : EltTy} (a : Memref sig .tc .vmem s e) (h : a.IsWhole) (X : s.Idx → Elt Ideal e) (B : LoadRect s) (x : B.shape.Idx) :
    a.view.readAt (Elt Ideal) B (h.unread X) x = X (B.idx x) :=
  congrFun (h.read_unread (Val := Elt Ideal) X) (B.idx x)

/-- The place in the first layer that column `j` of the reordered first layer comes from. -/
def src (j : Fin 2048) : Fin 2048 := ⟨256 * (j.val / 256) + 2 * (j.val % 128) + j.val / 128 % 2, by omega⟩

/-- The permutation array's column `f` has its one at row `2 (f mod 128) + f / 128`. -/
def IsPerm (x2 : Vec Ideal S256x256 .bf16) : Prop :=
  ∀ k f : Fin 256, x2 (ix2 k f) = if k.val = 2 * (f.val % 128) + f.val / 128 then 1 else 0

theorem prep_at (g : Fin 256 → EReal) (p : Vec Ideal S256x256 .bf16) (hp : IsPerm p) (f : Fin 256) :
    (∑ k, g k * p (ix2 k f)) = g ⟨2 * (f.val % 128) + f.val / 128, by omega⟩ :=
  pick g p _ f fun k => (hp k f).trans (by congr 1; exact propext ⟨fun h => Fin.ext h, fun h => congrArg Fin.val h⟩)

theorem ld4 (arg4 : Memref sig .tc .vmem S1x1024x2048 .f32) (harg4 : arg4.IsWhole) (x1 : Vec Ideal S1x1024x2048 .f32) (o : ℕ) (inb) (d : Fin 1024) (k : Fin 256) (ho : o + 256 ≤ 2048) :
    arg4.view.readAt (Elt Ideal) (Rect.unit (s := S1x1024x2048) ![0, 0, o] S1x1024x256.size inb).toLoadRect (harg4.unread x1) (ix3 0 d k) = x1 (ix3 0 d ⟨o + k.val, by omega⟩) := by
  refine (readAt_unread arg4 harg4 x1 _ _).trans (congrArg x1 ?_)
  funext a; apply Fin.ext
  match a with
  | ⟨0, _⟩ => show 0 + 1 * 0 = 0; rfl
  | ⟨1, _⟩ => show 0 + 1 * d.val = d.val; omega
  | ⟨2, _⟩ => show o + 1 * k.val = o + k.val; omega

theorem ld5 (arg5 : Memref sig .tc .vmem S256x256 .bf16) (harg5 : arg5.IsWhole) (x2 : Vec Ideal S256x256 .bf16) (inb) :
    arg5.view.readAt (Elt Ideal) (Rect.unit (s := S256x256) ![0, 0] S256x256.size inb).toLoadRect (harg5.unread x2) = x2 := by
  funext x
  refine (readAt_unread arg5 harg5 x2 _ _).trans (congrArg x2 ?_)
  funext a; apply Fin.ext
  match a with
  | ⟨0, _⟩ => show 0 + 1 * (x 0).val = (x 0).val; omega
  | ⟨1, _⟩ => show 0 + 1 * (x 1).val = (x 1).val; omega

/-- The reordered first layer. -/
def G0 (x1 : Vec Ideal S1x1024x2048 .f32) : S1024x2048.Idx → EReal := fun y => x1 (ix3 0 (y 0) (src (y 1)))
/-- The second layer. -/
def G1 (x5 : Vec Ideal S1x1024x1024 .f32) : S1024x1024.Idx → EReal := fun y => x5 (ix3 0 (y 0) (y 1))

theorem pc0 (o : ℕ) (ho : o + 256 ≤ 2048) (hm : o % 256 = 0) (inb) (x1 : Vec Ideal S1x1024x2048 .f32) (d : Fin 1024) (f : Fin 256) :
    x1 (ix3 0 d ⟨o + (2 * (f.val % 128) + f.val / 128), by omega⟩) = G0 x1 ((Rect.unit (s := S1024x2048) ![0, o] S1024x256.size inb).emb (ix2 d f)) := by
  show x1 _ = x1 _
  congr 1
  funext a; apply Fin.ext
  match a with
  | ⟨0, _⟩ => rfl
  | ⟨1, _⟩ => show d.val = 0 + 1 * d.val; omega
  | ⟨2, _⟩ => show o + (2 * (f.val % 128) + f.val / 128) = 256 * ((o + 1 * f.val) / 256) + 2 * ((o + 1 * f.val) % 128) + (o + 1 * f.val) / 128 % 2; omega

theorem pieces0 (c : Dev nD) (arg4 : Memref sig .tc .vmem S1x1024x2048 .f32) (harg4 : arg4.IsWhole) (arg5 : Memref sig .tc .vmem S256x256 .bf16) (harg5 : arg5.IsWhole) (x1 : Vec Ideal S1x1024x2048 .f32) (x2 : Vec Ideal S256x256 .bf16) (hp : IsPerm x2) :
    ∀ p ∈ runA.sl.HS0_8 (F := Ideal) c arg4 harg4 arg5 harg5 x1 x2, ∀ x, p.2 x = G0 x1 (p.1.emb x) := by
  intro p hp'
  replace hp' : p ∈ ([⟨Rect.unit (s := S1024x2048) ![0, 1792] S1024x256.size inb_S1024x2048_S1024x256_0_1792, k0_pay2 (F := Ideal) (arg4.view.readAt (Elt Ideal) (Rect.unit (s := S1x1024x2048) ![0, 0, 1792] S1x1024x256.size inb_S1x1024x2048_S1x1024x256_0_0_1792).toLoadRect (harg4.unread x1)) (arg5.view.readAt (Elt Ideal) (Rect.unit (s := S256x256) ![0, 0] S256x256.size inb_S256x256_S256x256_0_0).toLoadRect (harg5.unread x2))⟩,
      ⟨Rect.unit (s := S1024x2048) ![0, 1536] S1024x256.size inb_S1024x2048_S1024x256_0_1536, k0_pay1 (F := Ideal) (k0_pay14 (arg4.view.readAt (Elt Ideal) (Rect.unit (s := S1x1024x2048) ![0, 0, 1536] S1x1024x256.size inb_S1x1024x2048_S1x1024x256_0_0_1536).toLoadRect (harg4.unread x1)) (arg5.view.readAt (Elt Ideal) (Rect.unit (s := S256x256) ![0, 0] S256x256.size inb_S256x256_S256x256_0_0).toLoadRect (harg5.unread x2)))⟩,
      ⟨Rect.unit (s := S1024x2048) ![0, 1280] S1024x256.size inb_S1024x2048_S1024x256_0_1280, k0_pay13 (F := Ideal) (arg4.view.readAt (Elt Ideal) (Rect.unit (s := S1x1024x2048) ![0, 0, 1280] S1x1024x256.size inb_S1x1024x2048_S1x1024x256_0_0_1280).toLoadRect (harg4.unread x1)) (arg5.view.readAt (Elt Ideal) (Rect.unit (s := S256x256) ![0, 0] S256x256.size inb_S256x256_S256x256_0_0).toLoadRect (harg5.unread x2))⟩,
      ⟨Rect.unit (s := S1024x2048) ![0, 1024] S1024x256.size inb_S1024x2048_S1024x256_0_1024, k0_pay12 (F := Ideal) (arg4.view.readAt (Elt Ideal) (Rect.unit (s := S1x1024x2048) ![0, 0, 1024] S1x1024x256.size inb_S1x1024x2048_S1x1024x256_0_0_1024).toLoadRect (harg4.unread x1)) (arg5.view.readAt (Elt Ideal) (Rect.unit (s := S256x256) ![0, 0] S256x256.size inb_S256x256_S256x256_0_0).toLoadRect (harg5.unread x2))⟩,
      ⟨Rect.unit (s := S1024x2048) ![0, 768] S1024x256.size inb_S1024x2048_S1024x256_0_768, k0_pay11 (F := Ideal) (k0_pay10 (arg4.view.readAt (Elt Ideal) (Rect.unit (s := S1x1024x2048) ![0, 0, 768] S1x1024x256.size inb_S1x1024x2048_S1x1024x256_0_0_768).toLoadRect (harg4.unread x1))) (arg5.view.readAt (Elt Ideal) (Rect.unit (s := S256x256) ![0, 0] S256x256.size inb_S256x256_S256x256_0_0).toLoadRect (harg5.unread x2))⟩,
      ⟨Rect.unit (s := S1024x2048) ![0, 512] S1024x256.size inb_S1024x2048_S1024x256_0_512, k0_pay9 (F := Ideal) (arg4.view.readAt (Elt Ideal) (Rect.unit (s := S1x1024x2048) ![0, 0, 512] S1x1024x256.size inb_S1x1024x2048_S1x1024x256_0_0_512).toLoadRect (harg4.unread x1)) (arg5.view.readAt (Elt Ideal) (Rect.unit (s := S256x256) ![0, 0] S256x256.size inb_S256x256_S256x256_0_0).toLoadRect (harg5.unread x2))⟩,
      ⟨Rect.unit (s := S1024x2048) ![0, 256] S1024x256.size inb_S1024x2048_S1024x256_0_256, k0_pay8 (F := Ideal) (arg4.view.readAt (Elt Ideal) (Rect.unit (s := S1x1024x2048) ![0, 0, 256] S1x1024x256.size inb_S1x1024x2048_S1x1024x256_0_0_256).toLoadRect (harg4.unread x1)) (arg5.view.readAt (Elt Ideal) (Rect.unit (s := S256x256) ![0, 0] S256x256.size inb_S256x256_S256x256_0_0).toLoadRect (harg5.unread x2))⟩,
      ⟨Rect.unit (s := S1024x2048) ![0, 0] S1024x256.size inb_S1024x2048_S1024x256_0_0, k0_pay7 (F := Ideal) (arg4.view.readAt (Elt Ideal) (Rect.unit (s := S1x1024x2048) ![0, 0, 0] S1x1024x256.size inb_S1x1024x2048_S1x1024x256_0_0_0).toLoadRect (harg4.unread x1)) (arg5.view.readAt (Elt Ideal) (Rect.unit (s := S256x256) ![0, 0] S256x256.size inb_S256x256_S256x256_0_0).toLoadRect (harg5.unread x2))⟩] : List (View.Piece (Elt Ideal) S1024x2048 .bf16)) := hp'
  simp only [List.mem_cons, List.not_mem_nil, or_false] at hp'
  rcases hp' with rfl | rfl | rfl | rfl | rfl | rfl | rfl | rfl
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 1792 (by decide) (by decide) inb_S1024x2048_S1024x256_0_1792 x1 d f)
    refine (prep_2 _ _ d f).trans ?_
    rw [ld5 arg5 harg5 x2, prep_at _ x2 hp, ld4 arg4 harg4 x1 1792 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 1536 (by decide) (by decide) inb_S1024x2048_S1024x256_0_1536 x1 d f)
    refine (prep_1 _ _ d f).trans ?_
    rw [ld5 arg5 harg5 x2, prep_at _ x2 hp, ld4 arg4 harg4 x1 1536 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 1280 (by decide) (by decide) inb_S1024x2048_S1024x256_0_1280 x1 d f)
    refine (prep_12 _ _ d f).trans ?_
    rw [ld5 arg5 harg5 x2, prep_at _ x2 hp, ld4 arg4 harg4 x1 1280 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 1024 (by decide) (by decide) inb_S1024x2048_S1024x256_0_1024 x1 d f)
    refine (prep_11 _ _ d f).trans ?_
    rw [ld5 arg5 harg5 x2, prep_at _ x2 hp, ld4 arg4 harg4 x1 1024 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 768 (by decide) (by decide) inb_S1024x2048_S1024x256_0_768 x1 d f)
    refine (prep_10 _ _ d f).trans ?_
    rw [ld5 arg5 harg5 x2, prep_at _ x2 hp, ld4 arg4 harg4 x1 768 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 512 (by decide) (by decide) inb_S1024x2048_S1024x256_0_512 x1 d f)
    refine (prep_9 _ _ d f).trans ?_
    rw [ld5 arg5 harg5 x2, prep_at _ x2 hp, ld4 arg4 harg4 x1 512 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 256 (by decide) (by decide) inb_S1024x2048_S1024x256_0_256 x1 d f)
    refine (prep_8 _ _ d f).trans ?_
    rw [ld5 arg5 harg5 x2, prep_at _ x2 hp, ld4 arg4 harg4 x1 256 _ _ _ (by decide)]
  · intro x; obtain ⟨d, f, rfl⟩ : ∃ (d : Fin 1024) (f : Fin 256), x = ix2 d f := ⟨x 0, x 1, by funext a; match a with | ⟨0, _⟩ => rfl | ⟨1, _⟩ => rfl⟩
    refine Eq.trans ?_ (pc0 0 (by decide) (by decide) inb_S1024x2048_S1024x256_0_0 x1 d f)
    refine (prep_7 _ _ d f).trans ?_
    rw [ld5 arg5 harg5 x2, prep_at _ x2 hp, ld4 arg4 harg4 x1 0 _ _ _ (by decide)]

theorem ld8 (arg8 : Memref sig .tc .vmem S1x1024x1024 .f32) (harg8 : arg8.IsWhole) (x5 : Vec Ideal S1x1024x1024 .f32) (inb) :
    arg8.view.readAt (Elt Ideal) (Rect.unit (s := S1x1024x1024) ![0, 0, 0] S1x1024x1024.size inb).toLoadRect (harg8.unread x5) = x5 := by
  funext x
  refine (readAt_unread arg8 harg8 x5 _ _).trans (congrArg x5 ?_)
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem pc1 (x5 : Vec Ideal S1x1024x1024 .f32) (inb) (d f : Fin 1024) :
    x5 (ix3 0 d f) = G1 x5 ((Rect.unit (s := S1024x1024) ![0, 0] S1024x1024.size inb).emb (ix2 d f)) := by
  show x5 _ = x5 _
  congr 1
  funext a; apply Fin.ext
  match a with
  | ⟨0, _⟩ => rfl
  | ⟨1, _⟩ => show d.val = 0 + 1 * d.val; omega
  | ⟨2, _⟩ => show f.val = 0 + 1 * f.val; omega

theorem pc1' (arg8 : Memref sig .tc .vmem S1x1024x1024 .f32) (harg8 : arg8.IsWhole) (x5 : Vec Ideal S1x1024x1024 .f32) (d f : Fin 1024) :
    k0_pay3 (F := Ideal) (arg8.view.readAt (Elt Ideal) (Rect.unit (s := S1x1024x1024) ![0, 0, 0] S1x1024x1024.size inb_S1x1024x1024_S1x1024x1024_0_0_0).toLoadRect (harg8.unread x5)) (ix2 d f)
      = G1 x5 ((Rect.unit (s := S1024x1024) ![0, 0] S1024x1024.size inb_S1024x1024_S1024x1024_0_0).emb (ix2 d f)) := by
  rw [ld8 arg8 harg8 x5]
  exact (prep_3 _ d f).trans (pc1 x5 _ d f)

theorem pieces1 (c : Dev nD) (arg8 : Memref sig .tc .vmem S1x1024x1024 .f32) (harg8 : arg8.IsWhole) (x5 : Vec Ideal S1x1024x1024 .f32) :
    ∀ p ∈ runA.sl.HS1_1 (F := Ideal) c arg8 harg8 x5, ∀ x, p.2 x = G1 x5 (p.1.emb x) := by
  intro p hp'
  replace hp' : p ∈ ([⟨Rect.unit (s := S1024x1024) ![0, 0] S1024x1024.size inb_S1024x1024_S1024x1024_0_0, k0_pay3 (F := Ideal) (arg8.view.readAt (Elt Ideal) (Rect.unit (s := S1x1024x1024) ![0, 0, 0] S1x1024x1024.size inb_S1x1024x1024_S1x1024x1024_0_0_0).toLoadRect (harg8.unread x5))⟩] : List (View.Piece (Elt Ideal) S1024x1024 .bf16)) := hp'
  obtain rfl := List.mem_singleton.mp hp'
  intro x; obtain ⟨d, f, rfl⟩ : ∃ (d : Fin 1024) (f : Fin 1024), x = ix2 d f := ⟨x 0, x 1, by funext a; match a with | ⟨0, _⟩ => rfl | ⟨1, _⟩ => rfl⟩
  exact pc1' arg8 harg8 x5 d f

/-- The weights as the body loads them back. -/
theorem v32_at (c : Dev nD) (arg4 : Memref sig .tc .vmem S1x1024x2048 .f32) (harg4 : arg4.IsWhole) (arg5 : Memref sig .tc .vmem S256x256 .bf16) (harg5 : arg5.IsWhole) (arg11 : Memref sig .tc .vmem S1024x2048 .bf16) (x1 : Vec Ideal S1x1024x2048 .f32) (x2 : Vec Ideal S256x256 .bf16) (hp : IsPerm x2) (d : Fin 1024) (j : Fin 2048) :
    runA.sl.v32 (F := Ideal) c arg4 harg4 arg5 harg5 arg11 x1 x2 (ix2 d j) = x1 (ix3 0 d (src j)) := by
  unfold runA.sl.v32
  rw [View.readCov_eq_canon']
  have e : (Rect.unit (s := S1024x2048) ![0, 0] S1024x2048.size inb_S1024x2048_S1024x2048_0_0).toLoadRect.idx (ix2 d j) = ix2 d j := by
    funext a; apply Fin.ext
    match a with
    | ⟨0, _⟩ => show 0 + 1 * d.val = d.val; omega
    | ⟨1, _⟩ => show 0 + 1 * j.val = j.val; omega
  refine (congrArg _ e).trans ?_
  exact View.canon_apply_of_pieces (G0 x1) _ (pieces0 c arg4 harg4 arg5 harg5 x1 x2 hp) (ix2 d j)
    (View.cover_of_tiledL (runA.sl.HS0_8 (F := Ideal) c arg4 harg4 arg5 harg5 x1 x2) S1024x256.size (by sl_kernel_rfl) _)

theorem v215_at (c : Dev nD) (arg8 : Memref sig .tc .vmem S1x1024x1024 .f32) (harg8 : arg8.IsWhole) (arg12 : Memref sig .tc .vmem S1024x1024 .bf16) (x5 : Vec Ideal S1x1024x1024 .f32) (f n : Fin 1024) :
    runA.sl.v215 (F := Ideal) c arg8 harg8 arg12 x5 (ix2 f n) = x5 (ix3 0 f n) := by
  unfold runA.sl.v215
  rw [View.readCov_eq_canon']
  have e : (Rect.unit (s := S1024x1024) ![0, 0] S1024x1024.size inb_S1024x1024_S1024x1024_0_0).toLoadRect.idx (ix2 f n) = ix2 f n := by
    funext a; apply Fin.ext
    match a with
    | ⟨0, _⟩ => show 0 + 1 * f.val = f.val; omega
    | ⟨1, _⟩ => show 0 + 1 * n.val = n.val; omega
  refine (congrArg _ e).trans ?_
  exact View.canon_apply_of_pieces (G1 x5) _ (pieces1 c arg8 harg8 x5) (ix2 f n)
    (View.cover_of_tiledL (runA.sl.HS1_1 (F := Ideal) c arg8 harg8 x5) S1024x1024.size (by sl_kernel_rfl) _)

variable (m : (ℓ : Loc nD τ sig) → Buf (Elt Ideal) ℓ)

/-- The two weight buffers after a block that prepares them. -/
theorem sA0_at (hO : Ok m) (c : Dev nD) (t : Fin (cfgM m hO).N) (h0 : fresh m c t) (hp : IsPerm (iblk m hO c 2 t)) (d : Fin 1024) (j : Fin 2048) :
    sA0 m hO c t h0 (ix2 d j) = iblk m hO c 1 t (ix3 0 d (src j)) := by
  unfold sA0
  exact View.read_writes_apply_of_pieces _ _ (G0 (iblk m hO c 1 t)) _ (pieces0 c _ (hs0_1 m hO t) _ (hs0_2 m hO t) (iblk m hO c 1 t) (iblk m hO c 2 t) hp) (ix2 d j) (scoverA0 m hO c t h0 _)

theorem sA1_at (hO : Ok m) (c : Dev nD) (t : Fin (cfgM m hO).N) (h0 : fresh m c t) (f n : Fin 1024) :
    sA1 m hO c t h0 (ix2 f n) = iblk m hO c 5 t (ix3 0 f n) := by
  unfold sA1
  exact View.read_writes_apply_of_pieces _ _ (G1 (iblk m hO c 5 t)) _ (pieces1 c _ (hs0_5 m hO t) (iblk m hO c 5 t)) (ix2 f n) (scoverA1 m hO c t h0 _)

end Cert.Kernel2Ideal.Moe

end
-- ==== Proof.MoePermWord.lean ====
/- The word that the permutation's literal holds at a row and a column. -/
module

public import proofs.«01_k».proof.Kernel2Ideal

@[expose] public section

namespace Cert.Kernel2Ideal.Moe

/-- A one where column `f` of the permuted group takes column `k` of the group, and zero elsewhere. -/
def permWord (k f : Nat) : BitVec 16 := if k = 2 * (f % 128) + f / 128 then 0x3F80#16 else 0#16

end Cert.Kernel2Ideal.Moe
-- ==== Proof.MoePermA.lean ====
/- The words of the permutation, rows 0 to 63. -/
module

public import proofs.«01_k».proof.Proof.MoePermWord

@[expose] public section

set_option maxRecDepth 16384

namespace Cert.Kernel2Ideal.Moe

open Cert.Kernel2Ideal

theorem lit_rows0 : ∀ k : Fin 16, ∀ f : Fin 256, lit0t (256 * (0 + k.val) + f.val) = permWord (0 + k.val) f.val := by
  decide +kernel

theorem lit_rows1 : ∀ k : Fin 16, ∀ f : Fin 256, lit0t (256 * (16 + k.val) + f.val) = permWord (16 + k.val) f.val := by
  decide +kernel

theorem lit_rows2 : ∀ k : Fin 16, ∀ f : Fin 256, lit0t (256 * (32 + k.val) + f.val) = permWord (32 + k.val) f.val := by
  decide +kernel

theorem lit_rows3 : ∀ k : Fin 16, ∀ f : Fin 256, lit0t (256 * (48 + k.val) + f.val) = permWord (48 + k.val) f.val := by
  decide +kernel

end Cert.Kernel2Ideal.Moe
-- ==== Proof.MoePermB.lean ====
/- The words of the permutation, rows 64 to 127. -/
module

public import proofs.«01_k».proof.Proof.MoePermWord

@[expose] public section

set_option maxRecDepth 16384

namespace Cert.Kernel2Ideal.Moe

open Cert.Kernel2Ideal

theorem lit_rows4 : ∀ k : Fin 16, ∀ f : Fin 256, lit0t (256 * (64 + k.val) + f.val) = permWord (64 + k.val) f.val := by
  decide +kernel

theorem lit_rows5 : ∀ k : Fin 16, ∀ f : Fin 256, lit0t (256 * (80 + k.val) + f.val) = permWord (80 + k.val) f.val := by
  decide +kernel

theorem lit_rows6 : ∀ k : Fin 16, ∀ f : Fin 256, lit0t (256 * (96 + k.val) + f.val) = permWord (96 + k.val) f.val := by
  decide +kernel

theorem lit_rows7 : ∀ k : Fin 16, ∀ f : Fin 256, lit0t (256 * (112 + k.val) + f.val) = permWord (112 + k.val) f.val := by
  decide +kernel

end Cert.Kernel2Ideal.Moe
-- ==== Proof.MoePermC.lean ====
/- The words of the permutation, rows 128 to 191. -/
module

public import proofs.«01_k».proof.Proof.MoePermWord

@[expose] public section

set_option maxRecDepth 16384

namespace Cert.Kernel2Ideal.Moe

open Cert.Kernel2Ideal

theorem lit_rows8 : ∀ k : Fin 16, ∀ f : Fin 256, lit0t (256 * (128 + k.val) + f.val) = permWord (128 + k.val) f.val := by
  decide +kernel

theorem lit_rows9 : ∀ k : Fin 16, ∀ f : Fin 256, lit0t (256 * (144 + k.val) + f.val) = permWord (144 + k.val) f.val := by
  decide +kernel

theorem lit_rows10 : ∀ k : Fin 16, ∀ f : Fin 256, lit0t (256 * (160 + k.val) + f.val) = permWord (160 + k.val) f.val := by
  decide +kernel

theorem lit_rows11 : ∀ k : Fin 16, ∀ f : Fin 256, lit0t (256 * (176 + k.val) + f.val) = permWord (176 + k.val) f.val := by
  decide +kernel

end Cert.Kernel2Ideal.Moe
-- ==== Proof.MoePermD.lean ====
/- The words of the permutation, rows 192 to 255. -/
module

public import proofs.«01_k».proof.Proof.MoePermWord

@[expose] public section

set_option maxRecDepth 16384

namespace Cert.Kernel2Ideal.Moe

open Cert.Kernel2Ideal

theorem lit_rows12 : ∀ k : Fin 16, ∀ f : Fin 256, lit0t (256 * (192 + k.val) + f.val) = permWord (192 + k.val) f.val := by
  decide +kernel

theorem lit_rows13 : ∀ k : Fin 16, ∀ f : Fin 256, lit0t (256 * (208 + k.val) + f.val) = permWord (208 + k.val) f.val := by
  decide +kernel

theorem lit_rows14 : ∀ k : Fin 16, ∀ f : Fin 256, lit0t (256 * (224 + k.val) + f.val) = permWord (224 + k.val) f.val := by
  decide +kernel

theorem lit_rows15 : ∀ k : Fin 16, ∀ f : Fin 256, lit0t (256 * (240 + k.val) + f.val) = permWord (240 + k.val) f.val := by
  decide +kernel

end Cert.Kernel2Ideal.Moe
-- ==== Proof.MoePerm.lean ====
/- The permutation's literal, entry by entry. -/
module

public import proofs.«01_k».proof.Proof.MoePermA
public import proofs.«01_k».proof.Proof.MoePermB
public import proofs.«01_k».proof.Proof.MoePermC
public import proofs.«01_k».proof.Proof.MoePermD

@[expose] public section

set_option maxRecDepth 16384

namespace Cert.Kernel2Ideal.Moe

open Cert.Kernel2Ideal

/-- A row of a block of 16 rows, by its number in the whole. -/
theorem of_rows (w : Nat → BitVec 16) (b n : Nat) (h : ∀ k : Fin 16, ∀ f : Fin 256, w (256 * (b + k.val) + f.val) = permWord (b + k.val) f.val)
    (h1 : b ≤ n) (h2 : n < b + 16) (f : Fin 256) : w (256 * n + f.val) = permWord n f.val := by
  obtain ⟨j, rfl⟩ := Nat.exists_eq_add_of_le h1
  exact h ⟨j, by omega⟩ f

/-- Every row of the literal. -/
theorem lit_at (k f : Fin 256) : lit0t (256 * k.val + f.val) = permWord k.val f.val := by
  have hk := k.isLt
  generalize k.val = n at hk ⊢
  have hq : (0 ≤ n ∧ n < 0 + 16) ∨ (16 ≤ n ∧ n < 16 + 16) ∨ (32 ≤ n ∧ n < 32 + 16) ∨ (48 ≤ n ∧ n < 48 + 16) ∨ (64 ≤ n ∧ n < 64 + 16) ∨ (80 ≤ n ∧ n < 80 + 16) ∨ (96 ≤ n ∧ n < 96 + 16) ∨ (112 ≤ n ∧ n < 112 + 16) ∨ (128 ≤ n ∧ n < 128 + 16) ∨ (144 ≤ n ∧ n < 144 + 16) ∨ (160 ≤ n ∧ n < 160 + 16) ∨ (176 ≤ n ∧ n < 176 + 16) ∨ (192 ≤ n ∧ n < 192 + 16) ∨ (208 ≤ n ∧ n < 208 + 16) ∨ (224 ≤ n ∧ n < 224 + 16) ∨ (240 ≤ n ∧ n < 240 + 16) := by omega
  rcases hq with h | h | h | h | h | h | h | h | h | h | h | h | h | h | h | h
  · exact of_rows lit0t 0 n lit_rows0 h.1 h.2 f
  · exact of_rows lit0t 16 n lit_rows1 h.1 h.2 f
  · exact of_rows lit0t 32 n lit_rows2 h.1 h.2 f
  · exact of_rows lit0t 48 n lit_rows3 h.1 h.2 f
  · exact of_rows lit0t 64 n lit_rows4 h.1 h.2 f
  · exact of_rows lit0t 80 n lit_rows5 h.1 h.2 f
  · exact of_rows lit0t 96 n lit_rows6 h.1 h.2 f
  · exact of_rows lit0t 112 n lit_rows7 h.1 h.2 f
  · exact of_rows lit0t 128 n lit_rows8 h.1 h.2 f
  · exact of_rows lit0t 144 n lit_rows9 h.1 h.2 f
  · exact of_rows lit0t 160 n lit_rows10 h.1 h.2 f
  · exact of_rows lit0t 176 n lit_rows11 h.1 h.2 f
  · exact of_rows lit0t 192 n lit_rows12 h.1 h.2 f
  · exact of_rows lit0t 208 n lit_rows13 h.1 h.2 f
  · exact of_rows lit0t 224 n lit_rows14 h.1 h.2 f
  · exact of_rows lit0t 240 n lit_rows15 h.1 h.2 f

end Cert.Kernel2Ideal.Moe
-- ==== Proof.MoeBlk.lean ====
/- What every block's windows hold, as entries of the arguments. -/
module

public import proofs.«01_k».proof.Proof.MoePre
public import proofs.«01_k».proof.Proof.MoeScr
public import proofs.«01_k».proof.Proof.MoePerm
public import Idealize.ShloMosaic.Lib.IdealHost
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Moe

open Idealize.ShloMosaic Idealize.ShloMosaic.TcCoe Idealize.SL.Sem
open Cert.Kernel2Ideal Cert.Kernel2Ideal.Gen Cert.MoeSpec

variable (m : (ℓ : Loc nD τ sig) → Buf (Elt Ideal) ℓ)

theorem point_lt (t : Fin grid0.N) : t.val < 160 := lt_of_lt_of_eq t.isLt (by decide +kernel)

/-- A grid point as a block number. -/
abbrev blkNo (t : Fin grid0.N) : Fin 160 := ⟨t.val, point_lt t⟩

/-- The block before (the first block's is itself). -/
abbrev blkPrev (t : Fin grid0.N) : Fin 160 := ⟨t.val - 1, lt_of_le_of_lt (Nat.sub_le _ _) (point_lt t)⟩

theorem coord_toNat (t : Fin grid0.N) : (BitVec.ofNat 32 ((grid0.coords t) 0).val).toNat = t.val := by
  rw [coords_val, BitVec.toNat_ofNat, Nat.mod_eq_of_lt (by have := point_lt t; omega)]

theorem off1_at (t : Fin grid0.N) : k0_off1 (grid0.coords t) 0 = t.val :=
  (by decide +kernel : ∀ t : Fin grid0.N, k0_off1 (grid0.coords t) 0 = t.val) t

theorem off2_at (t : Fin grid0.N) : k0_off2 (grid0.coords t) 0 = t.val - 1 :=
  (by decide +kernel : ∀ t : Fin grid0.N, k0_off2 (grid0.coords t) 0 = t.val - 1) t

theorem wd1_at (c : Dev nD) (x : S160.Idx → BitVec 32) (t : Fin grid0.N) : wd1 (F := Ideal) c x (grid0.coords t) = x (ix1 (blkNo t)) := by
  unfold wd1
  refine congrArg x (funext fun a => Fin.ext ?_)
  match a with
  | ⟨0, _⟩ => exact off1_at t

theorem wd2_at (c : Dev nD) (x : S160.Idx → BitVec 32) (t : Fin grid0.N) : wd2 (F := Ideal) c x (grid0.coords t) = x (ix1 (blkPrev t)) := by
  unfold wd2
  refine congrArg x (funext fun a => Fin.ext ?_)
  match a with
  | ⟨0, _⟩ => exact off2_at t

theorem wdn_at (c : Dev nD) (x : S1.Idx → BitVec 32) : wdn (F := Ideal) c x = x (ix1 0) := by
  unfold wdn
  refine congrArg x (funext fun a => Fin.ext ?_)
  match a with
  | ⟨0, _⟩ => rfl

/-- The expert of a block. -/
def IsExp (t : Fin grid0.N) (e : Fin 32) : Prop := ((tbl m 0 : S160.Idx → BitVec 32) (ix1 (blkNo t))).toNat = e.val

theorem iblk0_at (hO : Ok m) (c : Dev nD) (t : Fin (cfgM m hO).N) (r : Fin 4096) (l : Fin 128) (h : 4096 * t.val + r.val < 655360) :
    iblk m hO c 0 t (ix2 r l) = (m (c.tc.loc main_arg2) : S655360x128.Idx → EReal) (ix2 ⟨4096 * t.val + r.val, h⟩ l) := by
  rw [← V_main_arg2 m c]
  unfold iblk
  refine congrArg (V m c main_arg2 : S655360x128.Idx → EReal) (funext fun a => Fin.ext ?_)
  match a with
  | ⟨0, _⟩ =>
    show (BitVec.ofNat 32 ((grid0.coords t) 0).val).toNat * 4096 + 1 * r.val = 4096 * t.val + r.val
    rw [coord_toNat]; omega
  | ⟨1, _⟩ =>
    show 0 * 128 + 1 * l.val = l.val
    omega

theorem iblk1_tab (hO : Ok m) (c : Dev nD) (t : Fin (cfgM m hO).N) (d : Fin 1024) (j : Fin 2048) (e : Fin 32) (he : IsExp m t e) :
    iblk m hO c 1 t (ix3 0 d j) = (V m c main_arg3 : S32x1024x2048.Idx → EReal) (ix3 e d j) := by
  unfold iblk
  refine congrArg (V m c main_arg3 : S32x1024x2048.Idx → EReal) (funext fun a => Fin.ext ?_)
  match a with
  | ⟨0, _⟩ =>
    exact Eq.trans (Nat.mul_one _) ((congrArg BitVec.toNat (wd1_at c (tbl m 0) t)).trans he)
  | ⟨1, _⟩ =>
    show 0 * 1024 + 1 * d.val = d.val
    omega
  | ⟨2, _⟩ =>
    show 0 * 2048 + 1 * j.val = j.val
    omega

theorem iblk5_tab (hO : Ok m) (c : Dev nD) (t : Fin (cfgM m hO).N) (d : Fin 1024) (j : Fin 1024) (e : Fin 32) (he : IsExp m t e) :
    iblk m hO c 5 t (ix3 0 d j) = (V m c main_arg5 : S32x1024x1024.Idx → EReal) (ix3 e d j) := by
  unfold iblk
  refine congrArg (V m c main_arg5 : S32x1024x1024.Idx → EReal) (funext fun a => Fin.ext ?_)
  match a with
  | ⟨0, _⟩ =>
    exact Eq.trans (Nat.mul_one _) ((congrArg BitVec.toNat (wd1_at c (tbl m 0) t)).trans he)
  | ⟨1, _⟩ =>
    show 0 * 1024 + 1 * d.val = d.val
    omega
  | ⟨2, _⟩ =>
    show 0 * 1024 + 1 * j.val = j.val
    omega

theorem iblk3_tab (hO : Ok m) (c : Dev nD) (t : Fin (cfgM m hO).N) (j : Fin 1024) (e : Fin 32) (he : IsExp m t e) :
    iblk m hO c 3 t (ix3 0 0 j) = (V m c main_v1 : S32x1x1024.Idx → EReal) (ix3 e 0 j) := by
  unfold iblk
  refine congrArg (V m c main_v1 : S32x1x1024.Idx → EReal) (funext fun a => Fin.ext ?_)
  match a with
  | ⟨0, _⟩ =>
    exact Eq.trans (Nat.mul_one _) ((congrArg BitVec.toNat (wd1_at c (tbl m 0) t)).trans he)
  | ⟨1, _⟩ =>
    show 0 * 1 + 1 * 0 = 0
    omega
  | ⟨2, _⟩ =>
    show 0 * 1024 + 1 * j.val = j.val
    omega

theorem iblk4_tab (hO : Ok m) (c : Dev nD) (t : Fin (cfgM m hO).N) (j : Fin 1024) (e : Fin 32) (he : IsExp m t e) :
    iblk m hO c 4 t (ix3 0 0 j) = (V m c main_v3 : S32x1x1024.Idx → EReal) (ix3 e 0 j) := by
  unfold iblk
  refine congrArg (V m c main_v3 : S32x1x1024.Idx → EReal) (funext fun a => Fin.ext ?_)
  match a with
  | ⟨0, _⟩ =>
    exact Eq.trans (Nat.mul_one _) ((congrArg BitVec.toNat (wd1_at c (tbl m 0) t)).trans he)
  | ⟨1, _⟩ =>
    show 0 * 1 + 1 * 0 = 0
    omega
  | ⟨2, _⟩ =>
    show 0 * 1024 + 1 * j.val = j.val
    omega

theorem iblk6_tab (hO : Ok m) (c : Dev nD) (t : Fin (cfgM m hO).N) (j : Fin 1024) (e : Fin 32) (he : IsExp m t e) :
    iblk m hO c 6 t (ix3 0 0 j) = (V m c main_v4 : S32x1x1024.Idx → EReal) (ix3 e 0 j) := by
  unfold iblk
  refine congrArg (V m c main_v4 : S32x1x1024.Idx → EReal) (funext fun a => Fin.ext ?_)
  match a with
  | ⟨0, _⟩ =>
    exact Eq.trans (Nat.mul_one _) ((congrArg BitVec.toNat (wd1_at c (tbl m 0) t)).trans he)
  | ⟨1, _⟩ =>
    show 0 * 1 + 1 * 0 = 0
    omega
  | ⟨2, _⟩ =>
    show 0 * 1024 + 1 * j.val = j.val
    omega

theorem iblk1_at (hO : Ok m) (c : Dev nD) (t : Fin (cfgM m hO).N) (d : Fin 1024) (j : Fin 2048) (e : Fin 32) (he : IsExp m t e) :
    iblk m hO c 1 t (ix3 0 d j) = (m (c.tc.loc main_arg3) : S32x1024x2048.Idx → EReal) (ix3 e d j) := by
  rw [iblk1_tab m hO c t d j e he, V_main_arg3]

theorem iblk5_at (hO : Ok m) (c : Dev nD) (t : Fin (cfgM m hO).N) (d : Fin 1024) (j : Fin 1024) (e : Fin 32) (he : IsExp m t e) :
    iblk m hO c 5 t (ix3 0 d j) = (m (c.tc.loc main_arg5) : S32x1024x1024.Idx → EReal) (ix3 e d j) := by
  rw [iblk5_tab m hO c t d j e he, V_main_arg5]

theorem iblk3_at (hO : Ok m) (c : Dev nD) (t : Fin (cfgM m hO).N) (j : Fin 1024) (e : Fin 32) (he : IsExp m t e) :
    iblk m hO c 3 t (ix3 0 0 j) = (m (c.tc.loc main_arg4) : S32x2048.Idx → EReal) (ix2 e (even j)) := by
  rw [iblk3_tab m hO c t j e he]
  entry_read
  pointwise
  rfl

theorem iblk4_at (hO : Ok m) (c : Dev nD) (t : Fin (cfgM m hO).N) (j : Fin 1024) (e : Fin 32) (he : IsExp m t e) :
    iblk m hO c 4 t (ix3 0 0 j) = (m (c.tc.loc main_arg4) : S32x2048.Idx → EReal) (ix2 e (odd j)) := by
  rw [iblk4_tab m hO c t j e he]
  entry_read
  pointwise
  exact congrArg (fun k => (m (c.tc.loc main_arg4) : S32x2048.Idx → EReal) (ix2 e k)) (Fin.ext (Nat.add_comm 1 (2 * j.val)))

theorem iblk6_at (hO : Ok m) (c : Dev nD) (t : Fin (cfgM m hO).N) (j : Fin 1024) (e : Fin 32) (he : IsExp m t e) :
    iblk m hO c 6 t (ix3 0 0 j) = (m (c.tc.loc main_arg6) : S32x1024.Idx → EReal) (ix2 e j) := by
  rw [iblk6_tab m hO c t j e he]
  entry_read
  pointwise

theorem iblk2_perm (hO : Ok m) (c : Dev nD) (t : Fin (cfgM m hO).N) : IsPerm (iblk m hO c 2 t) := by
  intro k f
  have e : iblk m hO c 2 t (ix2 k f) = (V m c main_cst : S256x256.Idx → EReal) (ix2 k f) := by
    unfold iblk
    refine congrArg (V m c main_cst : S256x256.Idx → EReal) (funext fun a => Fin.ext ?_)
    match a with
    | ⟨0, _⟩ =>
      show 0 * 256 + 1 * k.val = k.val
      omega
    | ⟨1, _⟩ =>
      show 0 * 256 + 1 * f.val = f.val
      omega
  rw [e]
  entry_read
  show Ideal.ofBits .bf16 (lit0 (S256x256.rowMajor (ix2 k f))) = _
  have hw : lit0 (S256x256.rowMajor (ix2 k f)) = permWord k.val f.val := by
    refine Eq.trans (congrArg lit0t (Eq.trans (Shape.rowMajor_val_two _) ?_)) (lit_at k f)
    show k.val * 256 + f.val = 256 * k.val + f.val
    omega
  rw [hw]
  unfold permWord
  by_cases h : k.val = 2 * (f.val % 128) + f.val / 128
  · rw [if_pos h, if_pos h]; exact Ideal.ofBits_one_bf16
  · rw [if_neg h, if_neg h]; exact Ideal.ofBits_zero_bf16

end Cert.Kernel2Ideal.Moe

end
-- ==== Proof.MoeOut.lean ====
/- What one block of tokens leaves in the output block, at an index. -/
module

public import proofs.«01_k».proof.Proof.MoeScr

@[expose] public section

set_option maxRecDepth 16384

noncomputable section

namespace Cert.Kernel2Ideal.Moe

open Cert.Kernel2Ideal.Gen Cert.MoeSpec
open Idealize.ShloMosaic Idealize.ShloMosaic.TcCoe Idealize.SL.Sem
open Idealize.ShloMosaic.Pipeline (Dat Cfg Window BodyObligation cellOf)

/-- The value of a block's stored piece `k`: columns `128 k` to `128 k + 127` of the block's result. -/
def cut (P : FVec Ideal S512x1024 .f32) (k : Fin 8) : S512x128.Idx → EReal := fun x => P (ix2 (x 0) ⟨128 * k.val + (x 1).val, by have h : (x 1).val < 128 := (x 1).isLt; have := k.isLt; omega⟩)

theorem cut_0 (P : FVec Ideal S512x1024 .f32) (x : S512x128.Idx) : extractStridedSlice (α := EReal) S512x128 ![0, 0] P slices_S512x1024_o0_0_S512x128 x = cut P 0 x := by
  show P _ = P _
  congr 1
  funext a; apply Fin.ext
  match a with
  | ⟨0, _⟩ => show 0 + (x 0).val = (x 0).val; omega
  | ⟨1, _⟩ => show 0 + (x 1).val = 128 * 0 + (x 1).val; omega
theorem cut_1 (P : FVec Ideal S512x1024 .f32) (x : S512x128.Idx) : extractStridedSlice (α := EReal) S512x128 ![0, 128] P slices_S512x1024_o0_128_S512x128 x = cut P 1 x := by
  show P _ = P _
  congr 1
  funext a; apply Fin.ext
  match a with
  | ⟨0, _⟩ => show 0 + (x 0).val = (x 0).val; omega
  | ⟨1, _⟩ => show 128 + (x 1).val = 128 * 1 + (x 1).val; omega
theorem cut_2 (P : FVec Ideal S512x1024 .f32) (x : S512x128.Idx) : extractStridedSlice (α := EReal) S512x128 ![0, 256] P slices_S512x1024_o0_256_S512x128 x = cut P 2 x := by
  show P _ = P _
  congr 1
  funext a; apply Fin.ext
  match a with
  | ⟨0, _⟩ => show 0 + (x 0).val = (x 0).val; omega
  | ⟨1, _⟩ => show 256 + (x 1).val = 128 * 2 + (x 1).val; omega
theorem cut_3 (P : FVec Ideal S512x1024 .f32) (x : S512x128.Idx) : extractStridedSlice (α := EReal) S512x128 ![0, 384] P slices_S512x1024_o0_384_S512x128 x = cut P 3 x := by
  show P _ = P _
  congr 1
  funext a; apply Fin.ext
  match a with
  | ⟨0, _⟩ => show 0 + (x 0).val = (x 0).val; omega
  | ⟨1, _⟩ => show 384 + (x 1).val = 128 * 3 + (x 1).val; omega
theorem cut_4 (P : FVec Ideal S512x1024 .f32) (x : S512x128.Idx) : extractStridedSlice (α := EReal) S512x128 ![0, 512] P slices_S512x1024_o0_512_S512x128 x = cut P 4 x := by
  show P _ = P _
  congr 1
  funext a; apply Fin.ext
  match a with
  | ⟨0, _⟩ => show 0 + (x 0).val = (x 0).val; omega
  | ⟨1, _⟩ => show 512 + (x 1).val = 128 * 4 + (x 1).val; omega
theorem cut_5 (P : FVec Ideal S512x1024 .f32) (x : S512x128.Idx) : extractStridedSlice (α := EReal) S512x128 ![0, 640] P slices_S512x1024_o0_640_S512x128 x = cut P 5 x := by
  show P _ = P _
  congr 1
  funext a; apply Fin.ext
  match a with
  | ⟨0, _⟩ => show 0 + (x 0).val = (x 0).val; omega
  | ⟨1, _⟩ => show 640 + (x 1).val = 128 * 5 + (x 1).val; omega
theorem cut_6 (P : FVec Ideal S512x1024 .f32) (x : S512x128.Idx) : extractStridedSlice (α := EReal) S512x128 ![0, 768] P slices_S512x1024_o0_768_S512x128 x = cut P 6 x := by
  show P _ = P _
  congr 1
  funext a; apply Fin.ext
  match a with
  | ⟨0, _⟩ => show 0 + (x 0).val = (x 0).val; omega
  | ⟨1, _⟩ => show 768 + (x 1).val = 128 * 6 + (x 1).val; omega
theorem cut_7 (P : FVec Ideal S512x1024 .f32) (x : S512x128.Idx) : extractStridedSlice (α := EReal) S512x128 ![0, 896] P slices_S512x1024_o0_896_S512x128 x = cut P 7 x := by
  show P _ = P _
  congr 1
  funext a; apply Fin.ext
  match a with
  | ⟨0, _⟩ => show 0 + (x 0).val = (x 0).val; omega
  | ⟨1, _⟩ => show 896 + (x 1).val = 128 * 7 + (x 1).val; omega

theorem ldb (a : Memref sig .tc .vmem S1x1x1024 .f32) (h : a.IsWhole) (x : Vec Ideal S1x1x1024 .f32) (inb) (f : Fin 1024) :
    a.view.readAt (Elt Ideal) (Rect.unit (s := S1x1x1024) ![0, 0, 0] S1x1x1024.size inb).toLoadRect (h.unread x) (ix3 0 0 f) = x (ix3 0 0 f) := by
  refine (readAt_unread a h x _ _).trans (congrArg x ?_)
  funext a; apply Fin.ext
  match a with
  | ⟨0, _⟩ => rfl
  | ⟨1, _⟩ => rfl
  | ⟨2, _⟩ => show 0 + 1 * f.val = f.val; omega

/-- Entry `d` of token `r` of a block: row `8 r + d / 128`, lane `d mod 128`. -/
def tok (x0 : Vec Ideal S4096x128 .f32) (r : Fin 512) (d : Fin 1024) : EReal := x0 (ix2 ⟨8 * r.val + d.val / 128, by omega⟩ ⟨d.val % 128, by omega⟩)

theorem ld3 (a : Memref sig .tc .vmem S4096x128 .f32) (h : a.IsWhole) (x0 : Vec Ideal S4096x128 .f32) (k : ℕ) (hk : k < 8) (inb) (r : Fin 512) (l : Fin 128) (d : Fin 1024) (hd : d.val = 128 * k + l.val) :
    a.view.readAt (Elt Ideal) { off := ![k, 0], size := S512x128.size, stride := ![8, 1], inb := inb } (h.unread x0) (ix2 r l) = tok x0 r d := by
  refine (readAt_unread a h x0 _ _).trans (congrArg x0 ?_)
  funext a; apply Fin.ext
  match a with
  | ⟨0, _⟩ => show k + 8 * r.val = 8 * r.val + d.val / 128; omega
  | ⟨1, _⟩ => show 0 + 1 * l.val = d.val % 128; omega

/-- The block's output from its result: row `8 r + k` holds columns `128 k …` of token `r`. -/
def spread (Y : Fin 512 → Fin 1024 → EReal) : S4096x128.Idx → EReal := fun y =>
  Y ⟨(y 0).val / 8, by have h : (y 0).val < 4096 := (y 0).isLt; omega⟩ ⟨128 * ((y 0).val % 8) + (y 1).val, by have h : (y 1).val < 128 := (y 1).isLt; omega⟩

theorem cut_spread (P : FVec Ideal S512x1024 .f32) (Y : Fin 512 → Fin 1024 → EReal) (h : ∀ r n, P (ix2 r n) = Y r n) (k : Fin 8) (x : S512x128.Idx) :
    cut P k x = spread Y ((rows8 k).emb x) := by
  have h0 : (x 0).val < 512 := (x 0).isLt
  have h1 : (x 1).val < 128 := (x 1).isLt
  have e0 : (((rows8 k).emb x) 0).val = k.val + 8 * (x 0).val := rfl
  have e1 : (((rows8 k).emb x) 1).val = 0 + 1 * (x 1).val := rfl
  have hk := k.isLt
  unfold cut spread
  refine (h _ _).trans (congrArg₂ Y (Fin.ext ?_) (Fin.ext ?_))
  · show (x 0).val = (((rows8 k).emb x) 0).val / 8
    omega
  · show 128 * k.val + (x 1).val = 128 * ((((rows8 k).emb x) 0).val % 8) + (((rows8 k).emb x) 1).val
    omega

set_option maxHeartbeats 2000000 in
theorem piecesA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (x0 : Vec Ideal S4096x128 .f32) (x1 : Vec Ideal S1x1024x2048 .f32) (x2 : Vec Ideal S256x256 .bf16) (x3 : Vec Ideal S1x1x1024 .f32) (x4 : Vec Ideal S1x1x1024 .f32) (x5 : Vec Ideal S1x1024x1024 .f32) (x6 : Vec Ideal S1x1x1024 .f32) (xt0 : TbBuf0 (F := Ideal) c tbM0_0) (xt1 : TbBuf0 (F := Ideal) c tbM0_1) (hc0) (hc1) (hc2)
    (W : Fin 1024 → Fin 2048 → EReal) (B : Fin 2048 → EReal) (D : Fin 1024 → Fin 1024 → EReal) (E : Fin 1024 → EReal) (hp : IsPerm x2) (hW : ∀ d j, x1 (ix3 0 d j) = W d j) (hD : ∀ f n, x5 (ix3 0 f n) = D f n) (h3' : ∀ f, x3 (ix3 0 0 f) = B (even f)) (h4' : ∀ f, x4 (ix3 0 0 f) = B (odd f)) (h6' : ∀ n, x6 (ix3 0 0 n) = E n) :
    ∀ p ∈ (runA (F := Ideal) c i arg3 harg3 arg4 harg4 arg5 harg5 arg6 harg6 arg7 harg7 arg8 harg8 arg9 harg9 arg10 harg10 arg11 harg11 arg12 harg12 x0 x1 x2 x3 x4 x5 x6 xt0 xt1 hc0 hc1 hc2).1, ∀ x, p.2 x = (spread fun r n => ffn (tok x0 r) W B (fun f => D f n) (E n)) (p.1.emb x) := by
  have hY : ∀ r n, (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) (ix2 r n) = ffn (tok x0 r) W B (fun f => D f n) (E n) := fun r n =>
    full_at _ _ _ _ _ _ _ _ _ _ _ _ _ (tok x0) W B D E
      (fun r l => ld3 arg3 harg3 x0 0 (by decide) _ r l ⟨0 + l.val, by omega⟩ rfl)
      (fun r l => ld3 arg3 harg3 x0 1 (by decide) _ r l ⟨128 + l.val, by omega⟩ rfl)
      (fun r l => ld3 arg3 harg3 x0 2 (by decide) _ r l ⟨256 + l.val, by omega⟩ rfl)
      (fun r l => ld3 arg3 harg3 x0 3 (by decide) _ r l ⟨384 + l.val, by omega⟩ rfl)
      (fun r l => ld3 arg3 harg3 x0 4 (by decide) _ r l ⟨512 + l.val, by omega⟩ rfl)
      (fun r l => ld3 arg3 harg3 x0 5 (by decide) _ r l ⟨640 + l.val, by omega⟩ rfl)
      (fun r l => ld3 arg3 harg3 x0 6 (by decide) _ r l ⟨768 + l.val, by omega⟩ rfl)
      (fun r l => ld3 arg3 harg3 x0 7 (by decide) _ r l ⟨896 + l.val, by omega⟩ rfl)
      (fun d j => (v32_at c arg4 harg4 arg5 harg5 arg11 x1 x2 hp d j).trans (hW d _))
      (fun f n => (v215_at c arg8 harg8 arg12 x5 f n).trans (hD f n))
      (fun f => (ldb arg6 harg6 x3 _ f).trans (h3' f)) (fun f => (ldb arg7 harg7 x4 _ f).trans (h4' f)) (fun n => (ldb arg9 harg9 x6 _ n).trans (h6' n)) r n
  intro p hp'
  replace hp' : p ∈ ([⟨rows8 7, extractStridedSlice (α := EReal) S512x128 ![0, 896] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_896_S512x128⟩,
    ⟨rows8 6, extractStridedSlice (α := EReal) S512x128 ![0, 768] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_768_S512x128⟩,
    ⟨rows8 5, extractStridedSlice (α := EReal) S512x128 ![0, 640] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_640_S512x128⟩,
    ⟨rows8 4, extractStridedSlice (α := EReal) S512x128 ![0, 512] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_512_S512x128⟩,
    ⟨rows8 3, extractStridedSlice (α := EReal) S512x128 ![0, 384] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_384_S512x128⟩,
    ⟨rows8 2, extractStridedSlice (α := EReal) S512x128 ![0, 256] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_256_S512x128⟩,
    ⟨rows8 1, extractStridedSlice (α := EReal) S512x128 ![0, 128] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_128_S512x128⟩,
    ⟨rows8 0, extractStridedSlice (α := EReal) S512x128 ![0, 0] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_0_S512x128⟩] : List (View.Piece (Elt Ideal) S4096x128 .f32)) := hp'
  generalize full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (runA.sl.v32 (F := Ideal) c arg4 harg4 arg5 harg5 arg11 x1 x2) (runA.sl.v215 (F := Ideal) c arg8 harg8 arg12 x5) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6)) = P at hY hp'
  simp only [List.mem_cons, List.not_mem_nil, or_false] at hp'
  rcases hp' with rfl | rfl | rfl | rfl | rfl | rfl | rfl | rfl
  · exact fun x => (cut_7 P x).trans (cut_spread P _ hY 7 x)
  · exact fun x => (cut_6 P x).trans (cut_spread P _ hY 6 x)
  · exact fun x => (cut_5 P x).trans (cut_spread P _ hY 5 x)
  · exact fun x => (cut_4 P x).trans (cut_spread P _ hY 4 x)
  · exact fun x => (cut_3 P x).trans (cut_spread P _ hY 3 x)
  · exact fun x => (cut_2 P x).trans (cut_spread P _ hY 2 x)
  · exact fun x => (cut_1 P x).trans (cut_spread P _ hY 1 x)
  · exact fun x => (cut_0 P x).trans (cut_spread P _ hY 0 x)

theorem ld11 (a : Memref sig .tc .vmem S1024x2048 .bf16) (h : a.IsWhole) (x : Vec Ideal S1024x2048 .bf16) (inb) (d : Fin 1024) (j : Fin 2048) :
    a.view.readAt (Elt Ideal) (Rect.unit (s := S1024x2048) ![0, 0] S1024x2048.size inb).toLoadRect (h.unread x) (ix2 d j) = x (ix2 d j) := by
  refine (readAt_unread a h x _ _).trans (congrArg x ?_)
  funext a; apply Fin.ext
  match a with
  | ⟨0, _⟩ => show 0 + 1 * d.val = d.val; omega
  | ⟨1, _⟩ => show 0 + 1 * j.val = j.val; omega

theorem ld12 (a : Memref sig .tc .vmem S1024x1024 .bf16) (h : a.IsWhole) (x : Vec Ideal S1024x1024 .bf16) (inb) (d j : Fin 1024) :
    a.view.readAt (Elt Ideal) (Rect.unit (s := S1024x1024) ![0, 0] S1024x1024.size inb).toLoadRect (h.unread x) (ix2 d j) = x (ix2 d j) := by
  refine (readAt_unread a h x _ _).trans (congrArg x ?_)
  funext a; apply Fin.ext
  match a with
  | ⟨0, _⟩ => show 0 + 1 * d.val = d.val; omega
  | ⟨1, _⟩ => show 0 + 1 * j.val = j.val; omega

set_option maxHeartbeats 2000000 in
theorem piecesB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (x0 : Vec Ideal S4096x128 .f32) (x1 : Vec Ideal S1x1024x2048 .f32) (x2 : Vec Ideal S256x256 .bf16) (x3 : Vec Ideal S1x1x1024 .f32) (x4 : Vec Ideal S1x1x1024 .f32) (x5 : Vec Ideal S1x1024x1024 .f32) (x6 : Vec Ideal S1x1x1024 .f32) (xt0 : TbBuf0 (F := Ideal) c tbM0_0) (xt1 : TbBuf0 (F := Ideal) c tbM0_1) (xs0 : Vec Ideal S1024x2048 .bf16) (xs1 : Vec Ideal S1024x1024 .bf16) (hc0) (hc1) (hc2)
    (W : Fin 1024 → Fin 2048 → EReal) (B : Fin 2048 → EReal) (D : Fin 1024 → Fin 1024 → EReal) (E : Fin 1024 → EReal) (hW : ∀ d j, xs0 (ix2 d j) = W d (src j)) (hD : ∀ f n, xs1 (ix2 f n) = D f n) (h3' : ∀ f, x3 (ix3 0 0 f) = B (even f)) (h4' : ∀ f, x4 (ix3 0 0 f) = B (odd f)) (h6' : ∀ n, x6 (ix3 0 0 n) = E n) :
    ∀ p ∈ (runB (F := Ideal) c i arg3 harg3 arg4 harg4 arg5 harg5 arg6 harg6 arg7 harg7 arg8 harg8 arg9 harg9 arg10 harg10 arg11 harg11 arg12 harg12 x0 x1 x2 x3 x4 x5 x6 xt0 xt1 xs0 xs1 hc0 hc1 hc2).1, ∀ x, p.2 x = (spread fun r n => ffn (tok x0 r) W B (fun f => D f n) (E n)) (p.1.emb x) := by
  have hY : ∀ r n, (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) (ix2 r n) = ffn (tok x0 r) W B (fun f => D f n) (E n) := fun r n =>
    full_at _ _ _ _ _ _ _ _ _ _ _ _ _ (tok x0) W B D E
      (fun r l => ld3 arg3 harg3 x0 0 (by decide) _ r l ⟨0 + l.val, by omega⟩ rfl)
      (fun r l => ld3 arg3 harg3 x0 1 (by decide) _ r l ⟨128 + l.val, by omega⟩ rfl)
      (fun r l => ld3 arg3 harg3 x0 2 (by decide) _ r l ⟨256 + l.val, by omega⟩ rfl)
      (fun r l => ld3 arg3 harg3 x0 3 (by decide) _ r l ⟨384 + l.val, by omega⟩ rfl)
      (fun r l => ld3 arg3 harg3 x0 4 (by decide) _ r l ⟨512 + l.val, by omega⟩ rfl)
      (fun r l => ld3 arg3 harg3 x0 5 (by decide) _ r l ⟨640 + l.val, by omega⟩ rfl)
      (fun r l => ld3 arg3 harg3 x0 6 (by decide) _ r l ⟨768 + l.val, by omega⟩ rfl)
      (fun r l => ld3 arg3 harg3 x0 7 (by decide) _ r l ⟨896 + l.val, by omega⟩ rfl)
      (fun d j => (ld11 arg11 harg11 xs0 _ d j).trans (hW d j))
      (fun f n => (ld12 arg12 harg12 xs1 _ f n).trans (hD f n))
      (fun f => (ldb arg6 harg6 x3 _ f).trans (h3' f)) (fun f => (ldb arg7 harg7 x4 _ f).trans (h4' f)) (fun n => (ldb arg9 harg9 x6 _ n).trans (h6' n)) r n
  intro p hp'
  replace hp' : p ∈ ([⟨rows8 7, extractStridedSlice (α := EReal) S512x128 ![0, 896] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_896_S512x128⟩,
    ⟨rows8 6, extractStridedSlice (α := EReal) S512x128 ![0, 768] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_768_S512x128⟩,
    ⟨rows8 5, extractStridedSlice (α := EReal) S512x128 ![0, 640] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_640_S512x128⟩,
    ⟨rows8 4, extractStridedSlice (α := EReal) S512x128 ![0, 512] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_512_S512x128⟩,
    ⟨rows8 3, extractStridedSlice (α := EReal) S512x128 ![0, 384] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_384_S512x128⟩,
    ⟨rows8 2, extractStridedSlice (α := EReal) S512x128 ![0, 256] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_256_S512x128⟩,
    ⟨rows8 1, extractStridedSlice (α := EReal) S512x128 ![0, 128] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_128_S512x128⟩,
    ⟨rows8 0, extractStridedSlice (α := EReal) S512x128 ![0, 0] (full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6))) slices_S512x1024_o0_0_S512x128⟩] : List (View.Piece (Elt Ideal) S4096x128 .f32)) := hp'
  generalize full (arg3.view.readAt (Elt Ideal) { off := ![0, 0], size := S512x128.size, stride := ![8, 1], inb := inb_S4096x128_S512x128_0_0_s_8_1 } (harg3.unread x0)) (arg3.view.readAt (Elt Ideal) { off := ![1, 0], size := S512x128.size, stride := ![8, 1], inb := inb_S4096x128_S512x128_1_0_s_8_1 } (harg3.unread x0)) (arg3.view.readAt (Elt Ideal) { off := ![2, 0], size := S512x128.size, stride := ![8, 1], inb := inb_S4096x128_S512x128_2_0_s_8_1 } (harg3.unread x0)) (arg3.view.readAt (Elt Ideal) { off := ![3, 0], size := S512x128.size, stride := ![8, 1], inb := inb_S4096x128_S512x128_3_0_s_8_1 } (harg3.unread x0)) (arg3.view.readAt (Elt Ideal) { off := ![4, 0], size := S512x128.size, stride := ![8, 1], inb := inb_S4096x128_S512x128_4_0_s_8_1 } (harg3.unread x0)) (arg3.view.readAt (Elt Ideal) { off := ![5, 0], size := S512x128.size, stride := ![8, 1], inb := inb_S4096x128_S512x128_5_0_s_8_1 } (harg3.unread x0)) (arg3.view.readAt (Elt Ideal) { off := ![6, 0], size := S512x128.size, stride := ![8, 1], inb := inb_S4096x128_S512x128_6_0_s_8_1 } (harg3.unread x0)) (arg3.view.readAt (Elt Ideal) { off := ![7, 0], size := S512x128.size, stride := ![8, 1], inb := inb_S4096x128_S512x128_7_0_s_8_1 } (harg3.unread x0)) (arg11.view.readAt (Elt Ideal) (Rect.unit (s := S1024x2048) ![0, 0] S1024x2048.size inb_S1024x2048_S1024x2048_0_0).toLoadRect (harg11.unread xs0)) (arg12.view.readAt (Elt Ideal) (Rect.unit (s := S1024x1024) ![0, 0] S1024x1024.size inb_S1024x1024_S1024x1024_0_0).toLoadRect (harg12.unread xs1)) (arg6.view.readAt (Elt Ideal) (Rect.unit (s := S1x1x1024) ![0, 0, 0] S1x1x1024.size inb_S1x1x1024_S1x1x1024_0_0_0).toLoadRect (harg6.unread x3)) (arg7.view.readAt (Elt Ideal) (Rect.unit (s := S1x1x1024) ![0, 0, 0] S1x1x1024.size inb_S1x1x1024_S1x1x1024_0_0_0).toLoadRect (harg7.unread x4)) (arg9.view.readAt (Elt Ideal) (Rect.unit (s := S1x1x1024) ![0, 0, 0] S1x1x1024.size inb_S1x1x1024_S1x1x1024_0_0_0).toLoadRect (harg9.unread x6)) = P at hY hp'
  simp only [List.mem_cons, List.not_mem_nil, or_false] at hp'
  rcases hp' with rfl | rfl | rfl | rfl | rfl | rfl | rfl | rfl
  · exact fun x => (cut_7 P x).trans (cut_spread P _ hY 7 x)
  · exact fun x => (cut_6 P x).trans (cut_spread P _ hY 6 x)
  · exact fun x => (cut_5 P x).trans (cut_spread P _ hY 5 x)
  · exact fun x => (cut_4 P x).trans (cut_spread P _ hY 4 x)
  · exact fun x => (cut_3 P x).trans (cut_spread P _ hY 3 x)
  · exact fun x => (cut_2 P x).trans (cut_spread P _ hY 2 x)
  · exact fun x => (cut_1 P x).trans (cut_spread P _ hY 1 x)
  · exact fun x => (cut_0 P x).trans (cut_spread P _ hY 0 x)

theorem piecesC (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S1024x2048 .bf16) (harg11 : arg11.IsWhole) (arg12 : Memref sig .tc .vmem S1024x1024 .bf16) (harg12 : arg12.IsWhole) (x0 : Vec Ideal S4096x128 .f32) (x1 : Vec Ideal S1x1024x2048 .f32) (x2 : Vec Ideal S256x256 .bf16) (x3 : Vec Ideal S1x1x1024 .f32) (x4 : Vec Ideal S1x1x1024 .f32) (x5 : Vec Ideal S1x1024x1024 .f32) (x6 : Vec Ideal S1x1x1024 .f32) (xt0 : TbBuf0 (F := Ideal) c tbM0_0) (xt1 : TbBuf0 (F := Ideal) c tbM0_1) (xs0 : Vec Ideal S1024x2048 .bf16) (xs1 : Vec Ideal S1024x1024 .bf16) (hc0) (hc1) (hc2) :
    ∀ p ∈ (runC (F := Ideal) c i arg3 harg3 arg4 harg4 arg5 harg5 arg6 harg6 arg7 harg7 arg8 harg8 arg9 harg9 arg10 harg10 arg11 harg11 arg12 harg12 x0 x1 x2 x3 x4 x5 x6 xt0 xt1 xs0 xs1 hc0 hc1 hc2).1, ∀ x, p.2 x = (0 : EReal) := by
  intro p hp'
  replace hp' : p ∈ ([⟨Rect.unit (s := S4096x128) ![0, 0] S4096x128.size inb_S4096x128_S4096x128_0_0, k0_pay6 (F := Ideal)⟩] : List (View.Piece (Elt Ideal) S4096x128 .f32)) := hp'
  obtain rfl := List.mem_singleton.mp hp'
  intro x
  obtain ⟨d, f, rfl⟩ : ∃ (d : Fin 4096) (f : Fin 128), x = ix2 d f := ⟨x 0, x 1, by funext a; match a with | ⟨0, _⟩ => rfl | ⟨1, _⟩ => rfl⟩
  have h : k0_pay6 (F := Ideal) (ix2 d f) = (0 : EReal) := by pointwise [k0_pay6]
  exact h

end Cert.Kernel2Ideal.Moe

end
-- ==== Proof.MoeVal.lean ====
/- The weight buffers and the output block of every block, as functions of the arguments. -/
module

public import proofs.«01_k».proof.Proof.MoeBlk
public import proofs.«01_k».proof.Proof.MoeOut

@[expose] public section

set_option maxRecDepth 16384

noncomputable section

namespace Cert.Kernel2Ideal.Moe

open Idealize.ShloMosaic Idealize.ShloMosaic.TcCoe Idealize.SL.Sem
open Cert.Kernel2Ideal Cert.Kernel2Ideal.Gen Cert.MoeSpec

variable (m : (ℓ : Loc nD τ sig) → Buf (Elt Ideal) ℓ)

/-- Expert `e`'s first layer, its bias, its second layer and that one's bias. -/
abbrev wGu (c : Dev nD) (e : Fin 32) (d : Fin 1024) (j : Fin 2048) : EReal := (m (c.tc.loc main_arg3) : S32x1024x2048.Idx → EReal) (ix3 e d j)
abbrev bGu (c : Dev nD) (e : Fin 32) (j : Fin 2048) : EReal := (m (c.tc.loc main_arg4) : S32x2048.Idx → EReal) (ix2 e j)
abbrev wDn (c : Dev nD) (e : Fin 32) (f : Fin 1024) (n : Fin 1024) : EReal := (m (c.tc.loc main_arg5) : S32x1024x1024.Idx → EReal) (ix3 e f n)
abbrev bDn (c : Dev nD) (e : Fin 32) (n : Fin 1024) : EReal := (m (c.tc.loc main_arg6) : S32x1024.Idx → EReal) (ix2 e n)

/-- A used block that prepares nothing follows a block of the same expert. -/
theorem exp_prev (c : Dev nD) (t : Fin grid0.N) (h0 : ¬fresh m c t) (h1 : used m c t) (e : Fin 32) (he : IsExp m t e)
    (p : Fin grid0.N) (hp : p.val = t.val - 1) : IsExp m p e := by
  have hw : wd1 (F := Ideal) c (tbl m 0) (grid0.coords t) = wd2 (F := Ideal) c (tbl m 0) (grid0.coords t) := by
    by_contra hne
    exact h0 ((cnd0_iff _ _ _ _).mpr ⟨Or.inr hne, (cond2_iff _ _).mp h1⟩)
  have hw' := ((wd1_at c (tbl m 0) t).symm.trans hw).trans (wd2_at c (tbl m 0) t)
  have hb : blkNo p = blkPrev t := Fin.ext hp
  unfold IsExp at he ⊢
  rw [hb, ← hw']
  exact he

/-- After a block that prepares them the weight buffers are its expert's layers. -/
theorem scr_fresh_at (hO : Ok m) (c : Dev nD) (t : Fin (cfgM m hO).N) (h0 : fresh m c t) (e : Fin 32) (he : IsExp m t e) :
    (∀ d j, (scr m hO c (t.val + 1)).1 (ix2 d j) = wGu m c e d (src j)) ∧ (∀ f k, (scr m hO c (t.val + 1)).2 (ix2 f k) = wDn m c e f k) := by
  refine ⟨fun d j => ?_, fun f k => ?_⟩
  · have h := (sA0_at m hO c t h0 (iblk2_perm m hO c t) d j).trans (iblk1_at m hO c t d (src j) e he)
    rw [(scr_A m hO c t h0).1] at h
    exact h
  · have h := (sA1_at m hO c t h0 f k).trans (iblk5_at m hO c t f k e he)
    rw [(scr_A m hO c t h0).2] at h
    exact h

/-- After a used block the weight buffers are its expert's layers, the first one's columns in pairs of half tiles. -/
theorem scr_used (hO : Ok m) (c : Dev nD) (n : ℕ) : ∀ (t : Fin (cfgM m hO).N) (e : Fin 32), t.val = n → used m c t → IsExp m t e →
    (∀ d j, (scr m hO c (t.val + 1)).1 (ix2 d j) = wGu m c e d (src j)) ∧ (∀ f k, (scr m hO c (t.val + 1)).2 (ix2 f k) = wDn m c e f k) := by
  induction n with
  | zero => exact fun t e ht hu he => scr_fresh_at m hO c t (fresh_zero m c t ht hu) e he
  | succ n ih =>
    intro t e ht hu he
    by_cases h0 : fresh m c t
    · exact scr_fresh_at m hO c t h0 e he
    · have hn : n < (cfgM m hO).N := by have := t.isLt; omega
      have h := ih ⟨n, hn⟩ e rfl (used_of_le m c t ⟨n, hn⟩ (by show n ≤ t.val; omega) hu) (exp_prev m c t h0 hu e he ⟨n, hn⟩ (by show n = t.val - 1; omega))
      rw [scr_same m hO c t h0, ht]
      exact h

/-- The output block of a used block. -/
theorem out_used (hO : Ok m) (c : Dev nD) (t : Fin (cfgM m hO).N) (h1 : used m c t) (e : Fin 32) (he : IsExp m t e) (y : S4096x128.Idx) :
    outV m hO c t y = (spread fun r n => ffn (tok (iblk m hO c 0 t) r) (wGu m c e) (bGu m c e) (fun f => wDn m c e f n) (bDn m c e n)) y := by
  by_cases h0 : fresh m c t
  · rw [out_A m hO c t h0]
    exact View.read_writes_apply_of_pieces _ _ _ _ (piecesA c (grid0.coords t) _ _ _ _ _ _ _ _ _ _ _ _ _ _ _ _ _ _ _ _ _ _ _ _ _ _ _ _ _ _ _ _
      (wGu m c e) (bGu m c e) (wDn m c e) (bDn m c e) (iblk2_perm m hO c t) (fun d j => iblk1_at m hO c t d j e he) (fun f n => iblk5_at m hO c t f n e he)
      (fun f => iblk3_at m hO c t f e he) (fun f => iblk4_at m hO c t f e he) (fun n => iblk6_at m hO c t n e he)) y (coverA m hO c t h0 (h1' m c t h0) y)
  · have hs := scr_used m hO c t.val t e rfl h1 he
    rw [scr_same m hO c t h0] at hs
    rw [out_B m hO c t h0 h1 (scr m hO c t.val).1 (scr m hO c t.val).2 (fun _ _ => ⟨rfl, rfl⟩)]
    exact View.read_writes_apply_of_pieces _ _ _ _ (piecesB c (grid0.coords t) _ _ _ _ _ _ _ _ _ _ _ _ _ _ _ _ _ _ _ _ _ _ _ _ _ _ _ _ _ _ _ _ _ _
      (wGu m c e) (bGu m c e) (wDn m c e) (bDn m c e) hs.1 hs.2
      (fun f => iblk3_at m hO c t f e he) (fun f => iblk4_at m hO c t f e he) (fun n => iblk6_at m hO c t n e he)) y (coverB m hO c t h0 h1 _ _ y)

/-- An unused block's output is zero. -/
theorem out_unused (hO : Ok m) (c : Dev nD) (t : Fin (cfgM m hO).N) (h1 : ¬used m c t) (y : S4096x128.Idx) : outV m hO c t y = (0 : EReal) := by
  rw [out_C m hO c t h1 (scr m hO c t.val).1 (scr m hO c t.val).2]
  exact View.read_writes_apply_of_pieces _ _ (fun _ => (0 : EReal)) _ (piecesC c (grid0.coords t) _ _ _ _ _ _ _ _ _ _ _ _ _ _ _ _ _ _ _ _ _ _ _ _ _ _ _ _ _ _ _ _ _ _) y
    (coverC m hO c t h1 _ _ y)

end Cert.Kernel2Ideal.Moe

end
-- ==== Proof.MoeFinal.lean ====
/- The result array of the expert feed-forward call. -/
module

public import proofs.«01_k».proof.Proof.MoeVal

@[expose] public section

set_option maxRecDepth 16384

noncomputable section

namespace Cert.Kernel2Ideal.Moe

open Idealize.ShloMosaic Idealize.ShloMosaic.TcCoe Idealize.SL.Sem Idealize.ShloMosaic.Pipeline
open Cert.Kernel2Ideal Cert.Kernel2Ideal.Gen Cert.MoeSpec

variable (m : (ℓ : Loc nD τ sig) → Buf (Elt Ideal) ℓ)

/-- The result at row `4096 b + y`, column `l`, for a block of expert `e`. -/
def rowOut (c : Dev nD) (e : Fin 32) (b : Fin 160) (y : Fin 4096) (l : Fin 128) : EReal :=
  if (b.val : ℤ) < ((tbl m 1 : S1.Idx → BitVec 32) (ix1 0)).toInt then
    ffn (fun d => (m (c.tc.loc main_arg2) : S655360x128.Idx → EReal) (ix2 ⟨4096 * b.val + 8 * (y.val / 8) + d.val / 128, by omega⟩ ⟨d.val % 128, by omega⟩))
      (wGu m c e) (bGu m c e) (fun f => wDn m c e f ⟨128 * (y.val % 8) + l.val, by omega⟩) (bDn m c e ⟨128 * (y.val % 8) + l.val, by omega⟩)
  else 0

theorem out_row (hO : Ok m) (c : Dev nD) (t : Fin (cfgM m hO).N) (e : Fin 32) (he : IsExp m t e) (y : Fin 4096) (l : Fin 128) :
    outV m hO c t (ix2 y l) = rowOut m c e (blkNo t) y l := by
  have hiff : used m c t ↔ (t.val : ℤ) < ((tbl m 1 : S1.Idx → BitVec 32) (ix1 0)).toInt := by
    rw [← coords_val t, ← wdn_at c (tbl m 1)]
    exact cond2_iff _ _
  unfold rowOut
  by_cases h1 : used m c t
  · rw [if_pos (hiff.mp h1), out_used m hO c t h1 e he]
    unfold spread
    have ht := point_lt t
    refine congrArg (fun x => ffn x _ _ _ _) (funext fun d => ?_)
    have hd : 8 * (y.val / 8) + d.val / 128 < 4096 := by omega
    refine (iblk0_at m hO c t ⟨8 * (y.val / 8) + d.val / 128, hd⟩ ⟨d.val % 128, by omega⟩ (by show 4096 * t.val + (8 * (y.val / 8) + d.val / 128) < 655360; omega)).trans ?_
    refine congrArg (fun r => (m (c.tc.loc main_arg2) : S655360x128.Idx → EReal) (ix2 r ⟨d.val % 128, by omega⟩)) (Fin.ext ?_)
    show 4096 * t.val + (8 * (y.val / 8) + d.val / 128) = 4096 * t.val + 8 * (y.val / 8) + d.val / 128
    omega
  · rw [if_neg (fun h => h1 (hiff.mpr h))]
    exact out_unused m hO c t h1 _

theorem exists_ix (y : S4096x128.Idx) : ∃ (y0 : Fin 4096) (y1 : Fin 128), y = ix2 y0 y1 :=
  ⟨y 0, y 1, by funext a; match a with | ⟨0, _⟩ => rfl | ⟨1, _⟩ => rfl⟩

/-- The blocks written back cover the array. -/
theorem cover7 (hO : Ok m) (i : S655360x128.Idx) : ∃ t : Fin (cfgM m hO).N, ((cfgM m hO).win 7).flush t = true ∧ i ∈ (((cfgM m hO).win 7).blk t).view.set := by
  have h0 : (i 0).val < 655360 := (i 0).isLt
  have h1 : (i 1).val < 128 := (i 1).isLt
  have hN : grid0.N = 160 := by decide +kernel
  have ht : (i 0).val / 4096 < grid0.N := by rw [hN]; omega
  refine ⟨⟨(i 0).val / 4096, ht⟩, flush0_7 _ _, (((cfgM m hO).win 7).emb_mem_blk_iff ⟨(i 0).val / 4096, ht⟩ i).mpr fun a => ?_⟩
  match a with
  | ⟨0, _⟩ =>
    show (BitVec.ofNat 32 ((grid0.coords ⟨(i 0).val / 4096, ht⟩) 0).val).toNat * 4096 ≤ (i 0).val ∧ (i 0).val < (BitVec.ofNat 32 ((grid0.coords ⟨(i 0).val / 4096, ht⟩) 0).val).toNat * 4096 + 4096
    rw [coord_toNat]
    show (i 0).val / 4096 * 4096 ≤ (i 0).val ∧ (i 0).val < (i 0).val / 4096 * 4096 + 4096
    omega
  | ⟨1, _⟩ =>
    show 0 * 128 ≤ (i 1).val ∧ (i 1).val < 0 * 128 + 128
    omega

/-- Every element of the array after the run. -/
theorem final (hO : Ok m) (c : Dev nD) (e : Fin 160 → Fin 32) (he : ∀ t : Fin grid0.N, IsExp m t (e (blkNo t))) :
    (dats m hO 0 c).arrAt 7 (cfgM m hO).N = fun i : S655360x128.Idx =>
      rowOut m c (e ⟨(i 0).val / 4096, by have h : (i 0).val < 655360 := (i 0).isLt; omega⟩) ⟨(i 0).val / 4096, by have h : (i 0).val < 655360 := (i 0).isLt; omega⟩
        ⟨(i 0).val % 4096, by omega⟩ ⟨(i 1).val, (i 1).isLt⟩ := by
  refine (dats m hO 0 c).arrAt_eq_of_emb 7 _ (fun t hf y => ?_) (cover7 m hO)
  obtain ⟨y0, y1, rfl⟩ := exists_ix y
  rw [after0_7]
  refine (out_row m hO c t (e (blkNo t)) (he t) y0 y1).trans ?_
  have e0 : ((((cfgM m hO).win 7).blk t).view.emb (ix2 y0 y1) (0 : Fin 2)).val = t.val * 4096 + y0.val := by
    show (BitVec.ofNat 32 ((grid0.coords t) 0).val).toNat * 4096 + 1 * y0.val = _
    rw [coord_toNat]; omega
  have e1 : ((((cfgM m hO).win 7).blk t).view.emb (ix2 y0 y1) (1 : Fin 2)).val = y1.val := by
    show 0 * 128 + 1 * y1.val = _
    omega
  have hb : (⟨(((((cfgM m hO).win 7).blk t).view.emb (ix2 y0 y1)) (0 : Fin 2)).val / 4096, by rw [e0]; have := point_lt t; omega⟩ : Fin 160) = blkNo t := Fin.ext (by show _ / 4096 = t.val; rw [e0]; omega)
  have hy : (⟨(((((cfgM m hO).win 7).blk t).view.emb (ix2 y0 y1)) (0 : Fin 2)).val % 4096, by omega⟩ : Fin 4096) = y0 := Fin.ext (by show _ % 4096 = y0.val; rw [e0]; omega)
  have hl : (⟨(((((cfgM m hO).win 7).blk t).view.emb (ix2 y0 y1)) (1 : Fin 2)).val, by rw [e1]; exact y1.isLt⟩ : Fin 128) = y1 := Fin.ext e1
  show _ = rowOut m c (e ⟨(((((cfgM m hO).win 7).blk t).view.emb (ix2 y0 y1)) (0 : Fin 2)).val / 4096, _⟩) ⟨(((((cfgM m hO).win 7).blk t).view.emb (ix2 y0 y1)) (0 : Fin 2)).val / 4096, _⟩ ⟨(((((cfgM m hO).win 7).blk t).view.emb (ix2 y0 y1)) (0 : Fin 2)).val % 4096, _⟩ ⟨(((((cfgM m hO).win 7).blk t).view.emb (ix2 y0 y1)) (1 : Fin 2)).val, _⟩
  rw [hb, hy, hl]

/-- The expert of block `b`, its word being in range. -/
def expOf (hr : ∀ j : S160.Idx, ((tbl m 0 : S160.Idx → BitVec 32) j).toNat < 32) (b : Fin 160) : Fin 32 :=
  ⟨((tbl m 0 : S160.Idx → BitVec 32) (ix1 b)).toNat, hr (ix1 b)⟩

theorem expOf_is (hr : ∀ j : S160.Idx, ((tbl m 0 : S160.Idx → BitVec 32) j).toNat < 32) (t : Fin grid0.N) : IsExp m t (expOf m hr (blkNo t)) := by
  unfold IsExp expOf; rfl

variable (ρ : Dev nD → PrngReg)

/-- The run: the result array as stated, the arguments unchanged. -/
theorem run_final (hO : Ok m) : θ_run defs (onTc (τ := τ) (main (F := Ideal))) ⟨m, fun _ => 0, ρ⟩ (fun r => ∀ c : Dev nD,
      r.2.mem ((c.tc : Thread nD τ).loc main_v5) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 7, ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).1 1).trans (((dats m hO 0 c).arrAt_in 1 rfl _).trans ((A_eq m hO c 1).trans (V_main_arg3 m c))),
      ((h c).2 main_arg4 (by decide : main_arg4 ∈ Pipeline.restRefs sig spec0)).trans (V_main_arg4 m c),
      ((h c).1 5).trans (((dats m hO 0 c).arrAt_in 5 rfl _).trans ((A_eq m hO c 5).trans (V_main_arg5 m c))),
      ((h c).2 main_arg6 (by decide : main_arg6 ∈ Pipeline.restRefs sig spec0)).trans (V_main_arg6 m c)⟩) (run_main m ρ hO)

end Cert.Kernel2Ideal.Moe

end
-- ==== Proof.MoeRefOps.lean ====
/- The reference's expert lookups, and its steps as functions of the arrays. -/
module

public import proofs.«01_k».proof.Proof.Gen.Reference2Ideal.Run
public import proofs.«01_k».proof.Proof.MoeSpec
public import Idealize.ShloMosaic.Lib.Routing.Ops
public import Idealize.ShloMosaic.Lib.Pointwise
public import Idealize.ShloMosaic.Lib.WordCmp

@[expose] public section

set_option maxRecDepth 16384

noncomputable section

namespace Cert.Reference2Ideal.Value

open Cert.Reference2Ideal Cert.Reference2Ideal.Gen Idealize.ShloMosaic Idealize.ShloMosaic.TcCoe Idealize.SL.Sem Cert.MoeSpec

/-- The first layers' lookup: block `b` takes its expert's matrix. -/
theorem gather_w (x : S32x1024x2048.Idx → EReal) (idx : IVec S160x1 32) (b : Fin 160) (d : Fin 1024) (j : Fin 2048) (e : Fin 32)
    (hb : (idx (ix2 b 0)).toInt.toNat = e.val) :
    Host.gather gather_S32x1024x2048_S160x1_S160x1024x2048_12_0_n_n_0_1_110242048 x idx (ix3 b d j) = x (ix3 e d j) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hsi : GatherDims.siIdx gather_S32x1024x2048_S160x1_S160x1024x2048_12_0_n_n_0_1_110242048 (ix3 b d j) ⟨0, by decide⟩ = ix2 b 0 := by
      funext b'; apply Fin.ext
      match b' with
      | ⟨0, _⟩ => rfl
      | ⟨1, _⟩ => rfl
    refine (congrArg (fun k => min (idx k).toInt.toNat 31) hsi).trans ?_
    show min (idx (ix2 b 0)).toInt.toNat 31 = e.val
    have := e.isLt
    omega
  | ⟨1, _⟩ =>
    unfold GatherDims.start GatherDims.offCoord
    rw [dif_neg (by decide +revert), dif_pos (by decide +revert), Nat.zero_add]; rfl
  | ⟨2, _⟩ =>
    unfold GatherDims.start GatherDims.offCoord
    rw [dif_neg (by decide +revert), dif_pos (by decide +revert), Nat.zero_add]; rfl

/-- The second layers' lookup. -/
theorem gather_d (x : S32x1024x1024.Idx → EReal) (idx : IVec S160x1 32) (b : Fin 160) (d : Fin 1024) (j : Fin 1024) (e : Fin 32)
    (hb : (idx (ix2 b 0)).toInt.toNat = e.val) :
    Host.gather gather_S32x1024x1024_S160x1_S160x1024x1024_12_0_n_n_0_1_110241024 x idx (ix3 b d j) = x (ix3 e d j) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hsi : GatherDims.siIdx gather_S32x1024x1024_S160x1_S160x1024x1024_12_0_n_n_0_1_110241024 (ix3 b d j) ⟨0, by decide⟩ = ix2 b 0 := by
      funext b'; apply Fin.ext
      match b' with
      | ⟨0, _⟩ => rfl
      | ⟨1, _⟩ => rfl
    refine (congrArg (fun k => min (idx k).toInt.toNat 31) hsi).trans ?_
    show min (idx (ix2 b 0)).toInt.toNat 31 = e.val
    have := e.isLt
    omega
  | ⟨1, _⟩ =>
    unfold GatherDims.start GatherDims.offCoord
    rw [dif_neg (by decide +revert), dif_pos (by decide +revert), Nat.zero_add]; rfl
  | ⟨2, _⟩ =>
    unfold GatherDims.start GatherDims.offCoord
    rw [dif_neg (by decide +revert), dif_pos (by decide +revert), Nat.zero_add]; rfl

/-- The biases' lookups. -/
theorem gather_bw (x : S32x2048.Idx → EReal) (idx : IVec S160x1 32) (b : Fin 160) (j : Fin 2048) (e : Fin 32)
    (hb : idx (ix2 b 0) = BitVec.ofNat 32 e.val) :
    Host.gather gather_S32x2048_S160x1_S160x2048_1_0_n_n_0_1_12048 x idx (ix2 b j) = x (ix2 e j) :=
  Routing.gather_row gather_S32x2048_S160x1_S160x2048_1_0_n_n_0_1_12048 rfl rfl rfl rfl rfl x idx b j e hb (by decide)

theorem gather_bd (x : S32x1024.Idx → EReal) (idx : IVec S160x1 32) (b : Fin 160) (j : Fin 1024) (e : Fin 32)
    (hb : idx (ix2 b 0) = BitVec.ofNat 32 e.val) :
    Host.gather gather_S32x1024_S160x1_S160x1024_1_0_n_n_0_1_11024 x idx (ix2 b j) = x (ix2 e j) :=
  Routing.gather_row gather_S32x1024_S160x1_S160x1024_1_0_n_n_0_1_11024 rfl rfl rfl rfl rfl x idx b j e hb (by decide)

/-- The blocks' experts, as the lookups' start indices. -/
def rIdx (a0 : IVec S160 32) : IVec S160x1 32 :=
  broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)

theorem rIdx_at (a0 : IVec S160 32) (b : Fin 160) (h : (a0 (ix1 b)).toNat < 32) : rIdx a0 (ix2 b 0) = a0 (ix1 b) := by
  pointwise [rIdx]
  have e : IntOp.cmpi .slt (a0 (ix1 b)) 0#32 = 0#1 := by
    show BitVec.ofBool ((a0 (ix1 b)).slt 0#32) = _
    have : (a0 (ix1 b)).slt 0#32 = false := by
      simp only [BitVec.slt, decide_eq_false_iff_not]
      rw [BitVec.toInt_eq_toNat_of_lt (by omega)]
      simp
    rw [this]; rfl
  rw [e]; rfl

theorem word_facts (a0 : IVec S160 32) (b : Fin 160) (e : Fin 32) (he : a0 (ix1 b) = BitVec.ofNat 32 e.val) :
    rIdx a0 (ix2 b 0) = BitVec.ofNat 32 e.val ∧ (rIdx a0 (ix2 b 0)).toInt.toNat = e.val := by
  have hn : (BitVec.ofNat 32 e.val).toNat = e.val := by
    rw [BitVec.toNat_ofNat]; exact Nat.mod_eq_of_lt (by have := e.isLt; omega)
  have h1 := rIdx_at a0 b (by rw [he, hn]; exact e.isLt)
  rw [h1, he]
  refine ⟨rfl, ?_⟩
  rw [BitVec.toInt_eq_toNat_of_lt (by rw [hn]; have := e.isLt; omega), hn]
  rfl

/-- The first layer of every token. -/
def rGu (a0 : IVec S160 32) (a2 : FVec Ideal S655360x128 .f32) (a3 : FVec Ideal S32x1024x2048 .f32) (a4 : FVec Ideal S32x2048 .f32) : FVec Ideal S160x512x2048 .f32 :=
  addf (Host.dotGeneral dot_S160x512x1024_S160x1024x2048_S160x512x2048_2_1_1_2_0_0 none (shapeCast _ a2 shapeCasts_S655360x128_S160x512x1024) (Host.gather gather_S32x1024x2048_S160x1_S160x1024x2048_12_0_n_n_0_1_110242048 a3 (rIdx a0)))
    (broadcastInDim S160x512x2048 ![0, 1, 2] bcast_S160x1x2048_S160x512x2048_0_1_2 (broadcastInDim S160x1x2048 ![0, 2] bcast_S160x2048_S160x1x2048_0_2 (Host.gather gather_S32x2048_S160x1_S160x2048_1_0_n_n_0_1_12048 a4 (rIdx a0))))

theorem rGu_at (a0 : IVec S160 32) (a2 : FVec Ideal S655360x128 .f32) (a3 : FVec Ideal S32x1024x2048 .f32) (a4 : FVec Ideal S32x2048 .f32)
    (b : Fin 160) (r : Fin 512) (j : Fin 2048) (e : Fin 32) (he : a0 (ix1 b) = BitVec.ofNat 32 e.val) :
    rGu a0 a2 a3 a4 (ix3 b r j) = (∑ d : Fin 1024, a2 (ix2 ⟨4096 * b.val + 8 * r.val + d.val / 128, by omega⟩ ⟨d.val % 128, by omega⟩) * a3 (ix3 e d j)) + a4 (ix2 e j) := by
  obtain ⟨hw, hw'⟩ := word_facts a0 b e he
  pointwise [rGu]
  rw [gather_bw a4 _ b j e hw]
  refine congrArg (· + _) (Finset.sum_congr rfl fun d _ => congrArg₂ (· * ·) (congrArg a2 (congrArg₂ ix2 (Fin.ext ?_) rfl)) (gather_w a3 _ b d j e hw'))
  show b.val * 4096 + r.val * 8 + d.val / 128 = 4096 * b.val + 8 * r.val + d.val / 128
  omega

/-- The hidden units of every token. -/
def rHid (gu : FVec Ideal S160x512x2048 .f32) : FVec Ideal S160x512x1024 .f32 :=
  mulf (mulf (addf (minimumf (broadcastInDim S160x512x1024 ![] bcast_S_S160x512x1024 (id (constant S_ .f32 0x40E00000#32))) (maximumf (broadcastInDim S160x512x1024 ![] bcast_S_S160x512x1024 (id (constant S_ .f32 0xC0E00000#32))) (Host.slice S160x512x1024 ![0, 0, 1] ![1, 1, 2] gu slicesBy_S160x512x2048_S160x512x1024_0s1_0s1_1s2))) (broadcastInDim S160x512x1024 ![] bcast_S_S160x512x1024 (constant S_ .f32 0x3F800000#32)))
    (minimumf (Host.slice S160x512x1024 ![0, 0, 0] ![1, 1, 2] gu slicesBy_S160x512x2048_S160x512x1024_0s1_0s1_0s2) (broadcastInDim S160x512x1024 ![] bcast_S_S160x512x1024 (constant S_ .f32 0x40E00000#32))))
    (Host.divf (broadcastInDim S160x512x1024 ![] bcast_S_S160x512x1024 (constant S_ .f32 0x3F800000#32)) (addf (broadcastInDim S160x512x1024 ![] bcast_S_S160x512x1024 (constant S_ .f32 0x3F800000#32)) (Host.exp (Host.negf (mulf (broadcastInDim S160x512x1024 ![] bcast_S_S160x512x1024 (constant S_ .f32 0x3FD9DB23#32)) (minimumf (Host.slice S160x512x1024 ![0, 0, 0] ![1, 1, 2] gu slicesBy_S160x512x2048_S160x512x1024_0s1_0s1_0s2) (broadcastInDim S160x512x1024 ![] bcast_S_S160x512x1024 (constant S_ .f32 0x40E00000#32))))))))

theorem rHid_at (gu : FVec Ideal S160x512x2048 .f32) (b : Fin 160) (r : Fin 512) (f : Fin 1024) :
    rHid gu (ix3 b r f) = act (gu (ix3 b r (even f))) (gu (ix3 b r (odd f))) := by
  pointwise [rHid]
  have e1 : (⟨1 + 2 * f.val, by omega⟩ : Fin 2048) = odd f := Fin.ext (Nat.add_comm 1 (2 * f.val))
  rw [e1]
  rfl

/-- The second layer of every token, zero in the unused blocks. -/
def rOut (a0 : IVec S160 32) (a1 : IVec S1 32) (h : FVec Ideal S160x512x1024 .f32) (a5 : FVec Ideal S32x1024x1024 .f32) (a6 : FVec Ideal S32x1024 .f32) : FVec Ideal S160x512x1024 .f32 :=
  select (broadcastInDim S160x512x1024 ![0, 1, 2] bcast_S160x1x1_S160x512x1024_0_1_2 (broadcastInDim S160x1x1 ![0] bcast_S160_S160x1x1_0 (cmpi .slt (iotaInDim S160 32 0) (broadcastInDim S160 ![] bcast_S_S160 (shapeCast _ a1 shapeCasts_S1_S_)))))
    (addf (Host.dotGeneral dot_S160x512x1024_S160x1024x1024_S160x512x1024_2_1_1_2_0_0 none h (Host.gather gather_S32x1024x1024_S160x1_S160x1024x1024_12_0_n_n_0_1_110241024 a5 (rIdx a0)))
      (broadcastInDim S160x512x1024 ![0, 1, 2] bcast_S160x1x1024_S160x512x1024_0_1_2 (broadcastInDim S160x1x1024 ![0, 2] bcast_S160x1024_S160x1x1024_0_2 (Host.gather gather_S32x1024_S160x1_S160x1024_1_0_n_n_0_1_11024 a6 (rIdx a0)))))
    (broadcastInDim S160x512x1024 ![] bcast_S_S160x512x1024 (id (constant S_ .f32 0x00000000#32)))

theorem rOut_at (a0 : IVec S160 32) (a1 : IVec S1 32) (h : FVec Ideal S160x512x1024 .f32) (a5 : FVec Ideal S32x1024x1024 .f32) (a6 : FVec Ideal S32x1024 .f32)
    (b : Fin 160) (r : Fin 512) (n : Fin 1024) (e : Fin 32) (he : a0 (ix1 b) = BitVec.ofNat 32 e.val) :
    rOut a0 a1 h a5 a6 (ix3 b r n) = if (b.val : ℤ) < (a1 (ix1 0)).toInt then (∑ f : Fin 1024, h (ix3 b r f) * a5 (ix3 e f n)) + a6 (ix2 e n) else 0 := by
  obtain ⟨hw, hw'⟩ := word_facts a0 b e he
  have hb : (BitVec.ofNat 32 b.val).toInt = (b.val : ℤ) := by
    rw [BitVec.toInt_eq_toNat_of_lt (by rw [BitVec.toNat_ofNat, Nat.mod_eq_of_lt (by omega)]; omega), BitVec.toNat_ofNat, Nat.mod_eq_of_lt (by omega)]
  have hc : IntOp.cmpi .slt (BitVec.ofNat 32 b.val) (a1 (ix1 0)) = BitVec.ofBool (decide ((b.val : ℤ) < (a1 (ix1 0)).toInt)) := by
    show BitVec.ofBool (decide ((BitVec.ofNat 32 b.val).toInt < (a1 (ix1 0)).toInt)) = _
    rw [hb]
  pointwise [rOut]
  rw [gather_bd a6 _ b n e hw, hc, Finset.sum_congr rfl fun f _ => congrArg (h (ix3 b r f) * ·) (gather_d a5 _ b f n e hw')]
  by_cases hl : (b.val : ℤ) < (a1 (ix1 0)).toInt
  · rw [if_pos hl, decide_eq_true hl]; rfl
  · rw [if_neg hl, decide_eq_false hl]; exact Ideal.ofBits_zero_f32

variable (m : (ℓ : Loc nD τ sig) → Buf (Elt Ideal) ℓ)

theorem res_eq (c : Dev nD) : res_out0 m c
    = shapeCast _ (rOut (m (c.tc.loc main_arg0)) (m (c.tc.loc main_arg1))
        (rHid (rGu (m (c.tc.loc main_arg0)) (m (c.tc.loc main_arg2)) (m (c.tc.loc main_arg3)) (m (c.tc.loc main_arg4))))
        (m (c.tc.loc main_arg5)) (m (c.tc.loc main_arg6))) shapeCasts_S160x512x1024_S655360x128 := rfl

/-- The reference's result at one element. -/
theorem ref_at (a0 : IVec S160 32) (a1 : IVec S1 32) (a2 : FVec Ideal S655360x128 .f32) (a3 : FVec Ideal S32x1024x2048 .f32) (a4 : FVec Ideal S32x2048 .f32) (a5 : FVec Ideal S32x1024x1024 .f32) (a6 : FVec Ideal S32x1024 .f32)
    (b : Fin 160) (y : Fin 4096) (l : Fin 128) (e : Fin 32) (he : a0 (ix1 b) = BitVec.ofNat 32 e.val) :
    shapeCast S655360x128 (rOut a0 a1 (rHid (rGu a0 a2 a3 a4)) a5 a6) shapeCasts_S160x512x1024_S655360x128 (ix2 ⟨4096 * b.val + y.val, by omega⟩ l)
      = if (b.val : ℤ) < (a1 (ix1 0)).toInt then
          ffn (fun d => a2 (ix2 ⟨4096 * b.val + 8 * (y.val / 8) + d.val / 128, by omega⟩ ⟨d.val % 128, by omega⟩))
            (fun d j => a3 (ix3 e d j)) (fun j => a4 (ix2 e j))
            (fun f => a5 (ix3 e f ⟨128 * (y.val % 8) + l.val, by omega⟩)) (a6 (ix2 e ⟨128 * (y.val % 8) + l.val, by omega⟩))
        else 0 := by
  have h := rOut_at a0 a1 (rHid (rGu a0 a2 a3 a4)) a5 a6 b ⟨y.val / 8, by omega⟩ ⟨128 * (y.val % 8) + l.val, by omega⟩ e he
  simp only [rHid_at, rGu_at a0 a2 a3 a4 b _ _ e he] at h
  refine Eq.trans ?_ h
  generalize rOut a0 a1 (rHid (rGu a0 a2 a3 a4)) a5 a6 = Z
  pointwise
  exact congrArg Z (congrArg₂ (ix3 b) (Fin.ext (by show (4096 * b.val + y.val) / 8 % 512 = y.val / 8; omega))
    (Fin.ext (by show (4096 * b.val + y.val) % 8 * 128 + l.val = 128 * (y.val % 8) + l.val; omega)))

end Cert.Reference2Ideal.Value

end
-- ==== Proof.MoeClaim.lean ====
/- The claims of the expert feed-forward call: the kernel's array and the reference's are the same function of the
   arguments, and the reference's own frame. -/
module

public import proofs.«01_k».proof.Defs
public import proofs.«01_k».proof.Proof.MoeFinal
public import proofs.«01_k».proof.Proof.MoeRefOps
public import proofs.«01_k».proof.Proof.Gen.Reference2Ideal
public import Idealize.ShloMosaic.Lib.Claim

@[expose] public section

set_option maxRecDepth 16384

noncomputable section

namespace Cert.Proof

open Idealize.ShloMosaic Idealize.ShloMosaic.TcCoe Idealize.SL.Sem Cert.MoeSpec

variable (m : (ℓ : Loc Cert.Kernel2Ideal.nD Cert.Kernel2Ideal.τ Cert.Kernel2Ideal.sig) → Buf (Elt Ideal) ℓ)

/-- The reference's result of the kernel's arguments, at row `4096 b + y`, column `l`. -/
theorem ref_row (c : Dev Cert.Kernel2Ideal.nD) (b : Fin 160) (y : Fin 4096) (l : Fin 128) (e : Fin 32)
    (he : ((Cert.Kernel2Ideal.Moe.tbl m 0 : Cert.Kernel2Ideal.S160.Idx → BitVec 32) (ix1 b)).toNat = e.val)
    (a0 : IVec Cert.Reference2Ideal.S160 32) (a1 : IVec Cert.Reference2Ideal.S1 32) (a2 : FVec Ideal Cert.Reference2Ideal.S655360x128 .f32) (a3 : FVec Ideal Cert.Reference2Ideal.S32x1024x2048 .f32) (a4 : FVec Ideal Cert.Reference2Ideal.S32x2048 .f32) (a5 : FVec Ideal Cert.Reference2Ideal.S32x1024x1024 .f32) (a6 : FVec Ideal Cert.Reference2Ideal.S32x1024 .f32)
    (h0 : a0 = m (c.tc.loc Cert.Kernel2Ideal.main_arg0)) (h1 : a1 = m (c.tc.loc Cert.Kernel2Ideal.main_arg1)) (h2 : a2 = m (c.tc.loc Cert.Kernel2Ideal.main_arg2)) (h3 : a3 = m (c.tc.loc Cert.Kernel2Ideal.main_arg3)) (h4 : a4 = m (c.tc.loc Cert.Kernel2Ideal.main_arg4)) (h5 : a5 = m (c.tc.loc Cert.Kernel2Ideal.main_arg5)) (h6 : a6 = m (c.tc.loc Cert.Kernel2Ideal.main_arg6)) :
    shapeCast Cert.Reference2Ideal.S655360x128 (Cert.Reference2Ideal.Value.rOut a0 a1 (Cert.Reference2Ideal.Value.rHid (Cert.Reference2Ideal.Value.rGu a0 a2 a3 a4)) a5 a6) Cert.Reference2Ideal.Gen.shapeCasts_S160x512x1024_S655360x128 (ix2 ⟨4096 * b.val + y.val, by omega⟩ l)
      = Cert.Kernel2Ideal.Moe.rowOut m c e b y l := by
  obtain rfl : c = 0 := Subsingleton.elim _ _
  have t0 : a0 = (Cert.Kernel2Ideal.Moe.tbl m 0 : Cert.Kernel2Ideal.S160.Idx → BitVec 32) := h0.trans (Cert.Kernel2Ideal.Moe.tbl_zero m).symm
  have t1 : a1 = (Cert.Kernel2Ideal.Moe.tbl m 1 : Cert.Kernel2Ideal.S1.Idx → BitVec 32) := h1.trans (Cert.Kernel2Ideal.Moe.tbl_one m).symm
  have hw : a0 (ix1 b) = BitVec.ofNat 32 e.val := by
    apply BitVec.eq_of_toNat_eq
    rw [t0, he, BitVec.toNat_ofNat, Nat.mod_eq_of_lt (by have := e.isLt; omega)]
  rw [Cert.Reference2Ideal.Value.ref_at a0 a1 a2 a3 a4 a5 a6 b y l e hw]
  unfold Cert.Kernel2Ideal.Moe.rowOut
  rw [t1, h2, h3, h4, h5, h6]

/-- The two results agree. -/
theorem out_agree (m' : (ℓ : Loc Cert.Reference2Ideal.nD Cert.Reference2Ideal.τ Cert.Reference2Ideal.sig) → Buf (Elt Ideal) ℓ)
    (c : Dev Cert.Kernel2Ideal.nD) (e : Fin 160 → Fin 32) (he : ∀ b, ((Cert.Kernel2Ideal.Moe.tbl m 0 : Cert.Kernel2Ideal.S160.Idx → BitVec 32) (ix1 b)).toNat = (e b).val)
    (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    (Cert.Reference2Ideal.Value.res_out0 m' c : Cert.Kernel2Ideal.S655360x128.Idx → EReal) = fun i : Cert.Kernel2Ideal.S655360x128.Idx =>
      Cert.Kernel2Ideal.Moe.rowOut m c (e ⟨(i 0).val / 4096, by have h : (i 0).val < 655360 := (i 0).isLt; omega⟩) ⟨(i 0).val / 4096, by have h : (i 0).val < 655360 := (i 0).isLt; omega⟩
        ⟨(i 0).val % 4096, by omega⟩ ⟨(i 1).val, (i 1).isLt⟩ := by
  obtain ⟨a0, a1, a2, a3, a4, a5, a6⟩ := hagree
  rw [Cert.Reference2Ideal.Value.res_eq]
  funext i
  have h : (i 0).val < 655360 := (i 0).isLt
  have hi : i = ix2 (⟨4096 * ((i 0).val / 4096) + (i 0).val % 4096, by omega⟩ : Fin 655360) (⟨(i 1).val, (i 1).isLt⟩ : Fin 128) := by
    funext a
    apply Fin.ext
    match a with
    | ⟨0, _⟩ => show (i 0).val = 4096 * ((i 0).val / 4096) + (i 0).val % 4096; omega
    | ⟨1, _⟩ => rfl
  refine Eq.trans (congrArg _ hi) ?_
  exact ref_row m c ⟨(i 0).val / 4096, by omega⟩ ⟨(i 0).val % 4096, by omega⟩ ⟨(i 1).val, (i 1).isLt⟩ _ (he _) _ _ _ _ _ _ _ a0 a1 a2 a3 a4 a5 a6

/-- THE VALUE CLAIM of the expert feed-forward call. -/
theorem algebraic_moe : Cert.algebraic_Kernel2Ideal_Reference2Ideal := by
  intro m g m' g' hpre hagree
  have hO := Cert.Kernel2Ideal.Moe.ok_pre m hpre
  have hr : ∀ j : Cert.Kernel2Ideal.S160.Idx, ((Cert.Kernel2Ideal.Moe.tbl m 0 : Cert.Kernel2Ideal.S160.Idx → BitVec 32) j).toNat < 32 := by
    rw [Cert.Kernel2Ideal.Moe.tbl_zero]
    exact fun j => Cert.Pre_expert_in_range.read (hpre 0) j
  refine ⟨fun c => (Cert.Kernel2Ideal.Moe.dats m hO 0 c).arrAt 7 (Cert.Kernel2Ideal.Moe.cfgM m hO).N, Cert.Kernel2Ideal.Moe.run_final m g hO, ?_⟩
  have hv : ∀ c : Dev Cert.Kernel2Ideal.nD, Cert.Reference2Ideal.Value.res_out0 m' c = (Cert.Kernel2Ideal.Moe.dats m hO 0 c).arrAt 7 (Cert.Kernel2Ideal.Moe.cfgM m hO).N := fun c =>
    (out_agree m m' c (Cert.Kernel2Ideal.Moe.expOf m hr) (fun b => by unfold Cert.Kernel2Ideal.Moe.expOf; rfl) (hagree c)).trans
      (Cert.Kernel2Ideal.Moe.final m hO c (Cert.Kernel2Ideal.Moe.expOf m hr) (Cert.Kernel2Ideal.Moe.expOf_is m hr)).symm
  exact (θ_run Cert.Reference2Ideal.defs _ _).mono (fun r h c => ⟨(h c).1.trans (hv c), (h c).2⟩) (Cert.Reference2Ideal.Value.run m' g')

/-- The reference's frame. -/
theorem frame_reference_moe : Cert.quiescent_Reference2Ideal := by
  intro m g _
  exact (θ_run Cert.Reference2Ideal.defs _ _).mono (fun r h => ⟨fun c => (h c).2,
      Idealize.ShloMosaic.sem_eq_zero_of_no_sems (by decide) r.2⟩)
    (Cert.Reference2Ideal.Value.run m g)

end Cert.Proof

end
-- ==== Proof.lean ====
module

public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3Ideal
public import proofs.«01_k».proof.Proof.Gen.Reference3Ideal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.AttnClaim
public import proofs.«01_k».proof.Proof.InClaim
public import proofs.«01_k».proof.Proof.BMoePre
public import proofs.«01_k».proof.Proof.MoePre
public import proofs.«01_k».proof.Proof.MoeClaim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := by
  intro m g _
  exact (θ_run Cert.ReferenceIdeal.defs _ _).mono (fun r h => ⟨fun c => (h c).2,
      Idealize.ShloMosaic.sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_unit_lane.facts, Cert.Pre_expert_in_range.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g h => Cert.Kernel2.Moe.frame m g (Cert.Kernel2.Moe.ok_pre m h),
  fun m g h => Cert.Kernel2Ideal.Moe.frame m g (Cert.Kernel2Ideal.Moe.ok_pre m h),
  frame_reference_moe,
  fun m g _ => frame_reference_moe m g trivial,
  fun m g _ => Cert.Kernel3.Gen.frame m g,
  fun m g _ => Cert.Kernel3Ideal.Gen.frame m g,
  frame_reference_in_proj,
  trivial,
  algebraic_attn,
  trivial,
  algebraic_moe,
  trivial,
  algebraic_in_proj⟩

end Cert.Proof

end
